-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_fit [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_fit [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_lengths_fit [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_lengths_fit [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_lengths_fit [hKernelIdeal : Cert.KernelIdeal.Facts] [hReferenceIdeal : Cert.ReferenceIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_lengths_fit : Cert.Pre_lengths_fit.Facts),
    quiescent_Kernel (hKernel := hKernel)
    ∧ quiescent_KernelIdeal (hKernelIdeal := hKernelIdeal)
    ∧ quiescent_KernelIdeal_pre_lengths_fit (hKernelIdeal := hKernelIdeal) (hPre_lengths_fit := hPre_lengths_fit)
    ∧ quiescent_ReferenceIdeal (hReferenceIdeal := hReferenceIdeal)
    ∧ quiescent_ReferenceIdeal_pre_lengths_fit (hReferenceIdeal := hReferenceIdeal) (hPre_lengths_fit := hPre_lengths_fit)
    ∧ preserves_Kernel_KernelIdeal
    ∧ algebraic_KernelIdeal_ReferenceIdeal_pre_lengths_fit (hKernelIdeal := hKernelIdeal) (hReferenceIdeal := hReferenceIdeal) (hPre_lengths_fit := hPre_lengths_fit)
-- ==== Pre_lengths_fit.lean ====
abbrev S24x2560x8x512 : Shape := ⟨4, ![24, 2560, 8, 512]⟩
abbrev S24x2560x8x4 : Shape := ⟨4, ![24, 2560, 8, 4]⟩
abbrev S24x2560x8x64 : Shape := ⟨4, ![24, 2560, 8, 64]⟩
abbrev S24x2560x512 : Shape := ⟨3, ![24, 2560, 512]⟩
abbrev S24x2560x4 : Shape := ⟨3, ![24, 2560, 4]⟩
abbrev S24x2560x64 : Shape := ⟨3, ![24, 2560, 64]⟩
abbrev S24 : Shape := ⟨1, ![24]⟩
abbrev S_ : Shape := ⟨0, ![]⟩

class Facts : Prop where
  bcast_S_S24 : S_.BroadcastsInDim S24 (![] : Fin 0 → Fin S24.rank)

variable [Facts]

def fn {F : FTy → Type} [FloatOps F] (main_arg0 : FVec F S24x2560x8x512 .fp8e4m3) (main_arg1 : FVec F S24x2560x8x4 .f32) (main_arg2 : FVec F S24x2560x8x64 .bf16) (main_arg3 : FVec F S24x2560x512 .fp8e4m3) (main_arg4 : FVec F S24x2560x4 .f32) (main_arg5 : FVec F S24x2560x64 .bf16) (main_arg6 : IVec S24 32) : IVec S24 1 :=
  let main_c : IVec S_ 32 := constantI S_ 32 2147483520#32
  let main_v0 : IVec S24 32 := broadcastInDim S24 ![] bcast_S_S24 main_c
  let main_v1 : IVec S24 1 := cmpi .sle main_arg6 main_v0
  main_v1
-- ==== Kernel.lean ====
abbrev S24x2560x8x512 : Shape := ⟨4, ![24, 2560, 8, 512]⟩
abbrev S24x2560x8x4 : Shape := ⟨4, ![24, 2560, 8, 4]⟩
abbrev S24x2560x8x64 : Shape := ⟨4, ![24, 2560, 8, 64]⟩
abbrev S24x2560x512 : Shape := ⟨3, ![24, 2560, 512]⟩
abbrev S24x2560x4 : Shape := ⟨3, ![24, 2560, 4]⟩
abbrev S24x2560x64 : Shape := ⟨3, ![24, 2560, 64]⟩
abbrev S24 : Shape := ⟨1, ![24]⟩
abbrev S24x2560x8 : Shape := ⟨3, ![24, 2560, 8]⟩
abbrev S1x128x8x512 : Shape := ⟨4, ![1, 128, 8, 512]⟩
abbrev S1 : Shape := ⟨1, ![1]⟩
abbrev S1x128x8x4 : Shape := ⟨4, ![1, 128, 8, 4]⟩
abbrev S1x128x8x64 : Shape := ⟨4, ![1, 128, 8, 64]⟩
abbrev S1x2560x512 : Shape := ⟨3, ![1, 2560, 512]⟩
abbrev S1x2560x4 : Shape := ⟨3, ![1, 2560, 4]⟩
abbrev S1x2560x64 : Shape := ⟨3, ![1, 2560, 64]⟩
abbrev S1x128x8 : Shape := ⟨3, ![1, 128, 8]⟩
abbrev S2560x640 : Shape := ⟨2, ![2560, 640]⟩
abbrev S1024x640 : Shape := ⟨2, ![1024, 640]⟩
abbrev S1024x128 : Shape := ⟨2, ![1024, 128]⟩
abbrev S1024x512 : Shape := ⟨2, ![1024, 512]⟩
abbrev S1x2560x128 : Shape := ⟨3, ![1, 2560, 128]⟩
abbrev S2560x128 : Shape := ⟨2, ![2560, 128]⟩
abbrev S1x2560x1 : Shape := ⟨3, ![1, 2560, 1]⟩
abbrev S2560x1 : Shape := ⟨2, ![2560, 1]⟩
abbrev S2560x64 : Shape := ⟨2, ![2560, 64]⟩
abbrev S1x128x8x128 : Shape := ⟨4, ![1, 128, 8, 128]⟩
abbrev S128x8x128 : Shape := ⟨3, ![128, 8, 128]⟩
abbrev S1x128x8x1 : Shape := ⟨4, ![1, 128, 8, 1]⟩
abbrev S128x8x1 : Shape := ⟨3, ![128, 8, 1]⟩
abbrev S128x8x64 : Shape := ⟨3, ![128, 8, 64]⟩
abbrev S256x640 : Shape := ⟨2, ![256, 640]⟩
abbrev S1024x256 : Shape := ⟨2, ![1024, 256]⟩
abbrev S1024 : Shape := ⟨1, ![1024]⟩
abbrev S1024x1 : Shape := ⟨2, ![1024, 1]⟩
abbrev S256x512 : Shape := ⟨2, ![256, 512]⟩
abbrev S128x128 : Shape := ⟨2, ![128, 128]⟩
abbrev S128x8 : Shape := ⟨2, ![128, 8]⟩

abbrev nBuf : Space → Nat
  | .hbm => 8
  | .vmem => 21
  | .smem => 1
  | _ => 0

abbrev bufTy : (tb : Table) → Fin (tcTables nBuf tb) → BufTy
  | .hbm, ⟨0, _⟩ => ⟨S24x2560x8x512, .fp8e4m3⟩
  | .hbm, ⟨1, _⟩ => ⟨S24x2560x8x4, .f32⟩
  | .hbm, ⟨2, _⟩ => ⟨S24x2560x8x64, .bf16⟩
  | .hbm, ⟨3, _⟩ => ⟨S24x2560x512, .fp8e4m3⟩
  | .hbm, ⟨4, _⟩ => ⟨S24x2560x4, .f32⟩
  | .hbm, ⟨5, _⟩ => ⟨S24x2560x64, .bf16⟩
  | .hbm, ⟨6, _⟩ => ⟨S24x2560x8x512, .bf16⟩
  | .hbm, ⟨7, _⟩ => ⟨S24x2560x8, .f32⟩
  | .local _ .vmem, ⟨0, _⟩ => ⟨S1x128x8x512, .fp8e4m3⟩
  | .local _ .vmem, ⟨1, _⟩ => ⟨S1x128x8x512, .fp8e4m3⟩
  | .local _ .vmem, ⟨2, _⟩ => ⟨S1x128x8x4, .f32⟩
  | .local _ .vmem, ⟨3, _⟩ => ⟨S1x128x8x4, .f32⟩
  | .local _ .vmem, ⟨4, _⟩ => ⟨S1x128x8x64, .bf16⟩
  | .local _ .vmem, ⟨5, _⟩ => ⟨S1x128x8x64, .bf16⟩
  | .local _ .vmem, ⟨6, _⟩ => ⟨S1x2560x512, .fp8e4m3⟩
  | .local _ .vmem, ⟨7, _⟩ => ⟨S1x2560x512, .fp8e4m3⟩
  | .local _ .vmem, ⟨8, _⟩ => ⟨S1x2560x4, .f32⟩
  | .local _ .vmem, ⟨9, _⟩ => ⟨S1x2560x4, .f32⟩
  | .local _ .vmem, ⟨10, _⟩ => ⟨S1x2560x64, .bf16⟩
  | .local _ .vmem, ⟨11, _⟩ => ⟨S1x2560x64, .bf16⟩
  | .local _ .vmem, ⟨12, _⟩ => ⟨S1x128x8x512, .bf16⟩
  | .local _ .vmem, ⟨13, _⟩ => ⟨S1x128x8x512, .bf16⟩
  | .local _ .vmem, ⟨14, _⟩ => ⟨S1x128x8, .f32⟩
  | .local _ .vmem, ⟨15, _⟩ => ⟨S1x128x8, .f32⟩
  | .local _ .vmem, ⟨16, _⟩ => ⟨S2560x640, .bf16⟩
  | .local _ .vmem, ⟨17, _⟩ => ⟨S1024x640, .bf16⟩
  | .local _ .vmem, ⟨18, _⟩ => ⟨S1024x128, .f32⟩
  | .local _ .vmem, ⟨19, _⟩ => ⟨S1024x128, .f32⟩
  | .local _ .vmem, ⟨20, _⟩ => ⟨S1024x512, .f32⟩
  | .local _ .smem, ⟨0, _⟩ => ⟨S24, .i32⟩
  | _, _ => ⟨S24x2560x8x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![24, 20], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) : Scf.Loop 32 :=
  let c0_i32_63 : BitVec 32 := 0#32
  let arg1 : BitVec 32 := BitVec.ofNat 32 (i 1).val
  let c128_i32_51 : BitVec 32 := 128#32
  let v83 : BitVec 32 := Scalar.muli arg1 c128_i32_51
  let c0_i32_52 : BitVec 32 := 0#32
  let v85 : BitVec 1 := Scalar.cmpi .sgt v83 c0_i32_52
  let v86 : BitVec 32 := Scalar.extui v85
  let c0_i32_53 : BitVec 32 := 0#32
  let v87 : BitVec 1 := Scalar.cmpi .slt v83 c0_i32_53
  let v88 : BitVec 32 := Scalar.extui v87
  let v89 : BitVec 32 := Scalar.subi v86 v88
  let c256_i32 : BitVec 32 := 256#32
  let c0_i32_54 : BitVec 32 := 0#32
  let v90 : BitVec 1 := Scalar.cmpi .sgt c256_i32 c0_i32_54
  let v91 : BitVec 32 := Scalar.extui v90
  let c0_i32_55 : BitVec 32 := 0#32
  let v92 : BitVec 1 := Scalar.cmpi .slt c256_i32 c0_i32_55
  let v93 : BitVec 32 := Scalar.extui v92
  let v94 : BitVec 32 := Scalar.subi v91 v93
  let v95 : BitVec 1 := Scalar.cmpi .ne v89 v94
  let v96 : BitVec 32 := Scalar.remsi v83 c256_i32
  let c0_i32_56 : BitVec 32 := 0#32
  let v97 : BitVec 1 := Scalar.cmpi .ne v96 c0_i32_56
  let v98 : BitVec 1 := Scalar.andi v95 v97
  let v84 : BitVec 32 := Scalar.divsi v83 c256_i32
  let c1_i32 : BitVec 32 := 1#32
  let v99 : BitVec 32 := Scalar.subi v84 c1_i32
  let v100 : BitVec 32 := Scalar.select v98 v99 v84
  let c0_i32_57 : BitVec 32 := 0#32
  let v101 : BitVec 32 := Scalar.subi v100 c0_i32_57
  let c1_i32_58 : BitVec 32 := 1#32
  let c1_i32_59 : BitVec 32 := 1#32
  let v102 : BitVec 32 := Scalar.subi c1_i32_58 c1_i32_59
  let v103 : BitVec 32 := Scalar.addi v101 v102
  let c1_i32_60 : BitVec 32 := 1#32
  let v104 : BitVec 32 := Scalar.divsi v103 c1_i32_60
  let v105 : BitVec 32 := Scalar.subi v104 c0_i32_63
  let c1_i32_64 : BitVec 32 := 1#32
  let v107 : BitVec 32 := Scalar.divsi v105 c1_i32_64
  let v108 : BitVec 32 := Scalar.muli v107 c1_i32_64
  let v109 : BitVec 32 := Scalar.addi c0_i32_63 v108
  let c1_i32_65 : BitVec 32 := 1#32
  ⟨c0_i32_63, v109, c1_i32_65⟩
def k0_mult1 (i : grid0.Coords) (k0_t1 : Fin (k0_t1_loop i).trips) : BitVec 32 :=
  let c0_i32_62 : BitVec 32 := 0#32
  let c0_i32_63 : BitVec 32 := 0#32
  let c1_i32_65 : BitVec 32 := 1#32
  let arg16 : BitVec 32 := Scf.iv c0_i32_63 c1_i32_65 k0_t1
  let c1_i32_61 : BitVec 32 := 1#32
  let v273 : BitVec 32 := Scalar.muli arg16 c1_i32_61
  let v274 : BitVec 32 := Scalar.addi c0_i32_62 v273
  let c256_i32_145 : BitVec 32 := 256#32
  let v275 : BitVec 32 := Scalar.muli v274 c256_i32_145
  v275
def k0_off2 (i : grid0.Coords) (k0_t1 : Fin (k0_t1_loop i).trips) : Fin 2 → Nat :=
  let c0_i32_62 : BitVec 32 := 0#32
  let c0_i32_63 : BitVec 32 := 0#32
  let c1_i32_65 : BitVec 32 := 1#32
  let arg16 : BitVec 32 := Scf.iv c0_i32_63 c1_i32_65 k0_t1
  let c1_i32_61 : BitVec 32 := 1#32
  let v273 : BitVec 32 := Scalar.muli arg16 c1_i32_61
  let v274 : BitVec 32 := Scalar.addi c0_i32_62 v273
  let c256_i32_145 : BitVec 32 := 256#32
  let v275 : BitVec 32 := Scalar.muli v274 c256_i32_145
  let v276 : BitVec 32 := v275
  let v277 : Index := Scalar.indexCast v276
  let c0_146 : Index := 0#32
  ![v277.toNat, 0]
@[reducible] def k0_t2_loop (i : grid0.Coords) : Scf.Loop 32 :=
  let c0_i32_63 : BitVec 32 := 0#32
  let arg1 : BitVec 32 := BitVec.ofNat 32 (i 1).val
  let c128_i32_51 : BitVec 32 := 128#32
  let v83 : BitVec 32 := Scalar.muli arg1 c128_i32_51
  let c0_i32_52 : BitVec 32 := 0#32
  let v85 : BitVec 1 := Scalar.cmpi .sgt v83 c0_i32_52
  let v86 : BitVec 32 := Scalar.extui v85
  let c0_i32_53 : BitVec 32 := 0#32
  let v87 : BitVec 1 := Scalar.cmpi .slt v83 c0_i32_53
  let v88 : BitVec 32 := Scalar.extui v87
  let v89 : BitVec 32 := Scalar.subi v86 v88
  let c256_i32 : BitVec 32 := 256#32
  let c0_i32_54 : BitVec 32 := 0#32
  let v90 : BitVec 1 := Scalar.cmpi .sgt c256_i32 c0_i32_54
  let v91 : BitVec 32 := Scalar.extui v90
  let c0_i32_55 : BitVec 32 := 0#32
  let v92 : BitVec 1 := Scalar.cmpi .slt c256_i32 c0_i32_55
  let v93 : BitVec 32 := Scalar.extui v92
  let v94 : BitVec 32 := Scalar.subi v91 v93
  let v95 : BitVec 1 := Scalar.cmpi .ne v89 v94
  let v96 : BitVec 32 := Scalar.remsi v83 c256_i32
  let c0_i32_56 : BitVec 32 := 0#32
  let v97 : BitVec 1 := Scalar.cmpi .ne v96 c0_i32_56
  let v98 : BitVec 1 := Scalar.andi v95 v97
  let v84 : BitVec 32 := Scalar.divsi v83 c256_i32
  let c1_i32 : BitVec 32 := 1#32
  let v99 : BitVec 32 := Scalar.subi v84 c1_i32
  let v100 : BitVec 32 := Scalar.select v98 v99 v84
  let c0_i32_57 : BitVec 32 := 0#32
  let v101 : BitVec 32 := Scalar.subi v100 c0_i32_57
  let c1_i32_58 : BitVec 32 := 1#32
  let c1_i32_59 : BitVec 32 := 1#32
  let v102 : BitVec 32 := Scalar.subi c1_i32_58 c1_i32_59
  let v103 : BitVec 32 := Scalar.addi v101 v102
  let c1_i32_60 : BitVec 32 := 1#32
  let v104 : BitVec 32 := Scalar.divsi v103 c1_i32_60
  let v105 : BitVec 32 := Scalar.subi v104 c0_i32_63
  let c1_i32_64 : BitVec 32 := 1#32
  let v107 : BitVec 32 := Scalar.divsi v105 c1_i32_64
  let v108 : BitVec 32 := Scalar.muli v107 c1_i32_64
  let v109 : BitVec 32 := Scalar.addi c0_i32_63 v108
  let v106 : BitVec 32 := Scalar.addi c0_i32_63 v105
  let c1_i32_66 : BitVec 32 := 1#32
  ⟨v109, v106, c1_i32_66⟩
def k0_mult2 (i : grid0.Coords) (k0_t2 : Fin (k0_t2_loop i).trips) : BitVec 32 :=
  let c0_i32_62 : BitVec 32 := 0#32
  let c0_i32_63 : BitVec 32 := 0#32
  let arg1 : BitVec 32 := BitVec.ofNat 32 (i 1).val
  let c128_i32_51 : BitVec 32 := 128#32
  let v83 : BitVec 32 := Scalar.muli arg1 c128_i32_51
  let c0_i32_52 : BitVec 32 := 0#32
  let v85 : BitVec 1 := Scalar.cmpi .sgt v83 c0_i32_52
  let v86 : BitVec 32 := Scalar.extui v85
  let c0_i32_53 : BitVec 32 := 0#32
  let v87 : BitVec 1 := Scalar.cmpi .slt v83 c0_i32_53
  let v88 : BitVec 32 := Scalar.extui v87
  let v89 : BitVec 32 := Scalar.subi v86 v88
  let c256_i32 : BitVec 32 := 256#32
  let c0_i32_54 : BitVec 32 := 0#32
  let v90 : BitVec 1 := Scalar.cmpi .sgt c256_i32 c0_i32_54
  let v91 : BitVec 32 := Scalar.extui v90
  let c0_i32_55 : BitVec 32 := 0#32
  let v92 : BitVec 1 := Scalar.cmpi .slt c256_i32 c0_i32_55
  let v93 : BitVec 32 := Scalar.extui v92
  let v94 : BitVec 32 := Scalar.subi v91 v93
  let v95 : BitVec 1 := Scalar.cmpi .ne v89 v94
  let v96 : BitVec 32 := Scalar.remsi v83 c256_i32
  let c0_i32_56 : BitVec 32 := 0#32
  let v97 : BitVec 1 := Scalar.cmpi .ne v96 c0_i32_56
  let v98 : BitVec 1 := Scalar.andi v95 v97
  let v84 : BitVec 32 := Scalar.divsi v83 c256_i32
  let c1_i32 : BitVec 32 := 1#32
  let v99 : BitVec 32 := Scalar.subi v84 c1_i32
  let v100 : BitVec 32 := Scalar.select v98 v99 v84
  let c0_i32_57 : BitVec 32 := 0#32
  let v101 : BitVec 32 := Scalar.subi v100 c0_i32_57
  let c1_i32_58 : BitVec 32 := 1#32
  let c1_i32_59 : BitVec 32 := 1#32
  let v102 : BitVec 32 := Scalar.subi c1_i32_58 c1_i32_59
  let v103 : BitVec 32 := Scalar.addi v101 v102
  let c1_i32_60 : BitVec 32 := 1#32
  let v104 : BitVec 32 := Scalar.divsi v103 c1_i32_60
  let v105 : BitVec 32 := Scalar.subi v104 c0_i32_63
  let c1_i32_64 : BitVec 32 := 1#32
  let v107 : BitVec 32 := Scalar.divsi v105 c1_i32_64
  let v108 : BitVec 32 := Scalar.muli v107 c1_i32_64
  let v109 : BitVec 32 := Scalar.addi c0_i32_63 v108
  let c1_i32_66 : BitVec 32 := 1#32
  let arg16 : BitVec 32 := Scf.iv v109 c1_i32_66 k0_t2
  let c1_i32_61 : BitVec 32 := 1#32
  let v273 : BitVec 32 := Scalar.muli arg16 c1_i32_61
  let v274 : BitVec 32 := Scalar.addi c0_i32_62 v273
  let c256_i32_145 : BitVec 32 := 256#32
  let v275 : BitVec 32 := Scalar.muli v274 c256_i32_145
  v275
def k0_off3 (i : grid0.Coords) (k0_t2 : Fin (k0_t2_loop i).trips) : Fin 2 → Nat :=
  let c0_i32_62 : BitVec 32 := 0#32
  let c0_i32_63 : BitVec 32 := 0#32
  let arg1 : BitVec 32 := BitVec.ofNat 32 (i 1).val
  let c128_i32_51 : BitVec 32 := 128#32
  let v83 : BitVec 32 := Scalar.muli arg1 c128_i32_51
  let c0_i32_52 : BitVec 32 := 0#32
  let v85 : BitVec 1 := Scalar.cmpi .sgt v83 c0_i32_52
  let v86 : BitVec 32 := Scalar.extui v85
  let c0_i32_53 : BitVec 32 := 0#32
  let v87 : BitVec 1 := Scalar.cmpi .slt v83 c0_i32_53
  let v88 : BitVec 32 := Scalar.extui v87
  let v89 : BitVec 32 := Scalar.subi v86 v88
  let c256_i32 : BitVec 32 := 256#32
  let c0_i32_54 : BitVec 32 := 0#32
  let v90 : BitVec 1 := Scalar.cmpi .sgt c256_i32 c0_i32_54
  let v91 : BitVec 32 := Scalar.extui v90
  let c0_i32_55 : BitVec 32 := 0#32
  let v92 : BitVec 1 := Scalar.cmpi .slt c256_i32 c0_i32_55
  let v93 : BitVec 32 := Scalar.extui v92
  let v94 : BitVec 32 := Scalar.subi v91 v93
  let v95 : BitVec 1 := Scalar.cmpi .ne v89 v94
  let v96 : BitVec 32 := Scalar.remsi v83 c256_i32
  let c0_i32_56 : BitVec 32 := 0#32
  let v97 : BitVec 1 := Scalar.cmpi .ne v96 c0_i32_56
  let v98 : BitVec 1 := Scalar.andi v95 v97
  let v84 : BitVec 32 := Scalar.divsi v83 c256_i32
  let c1_i32 : BitVec 32 := 1#32
  let v99 : BitVec 32 := Scalar.subi v84 c1_i32
  let v100 : BitVec 32 := Scalar.select v98 v99 v84
  let c0_i32_57 : BitVec 32 := 0#32
  let v101 : BitVec 32 := Scalar.subi v100 c0_i32_57
  let c1_i32_58 : BitVec 32 := 1#32
  let c1_i32_59 : BitVec 32 := 1#32
  let v102 : BitVec 32 := Scalar.subi c1_i32_58 c1_i32_59
  let v103 : BitVec 32 := Scalar.addi v101 v102
  let c1_i32_60 : BitVec 32 := 1#32
  let v104 : BitVec 32 := Scalar.divsi v103 c1_i32_60
  let v105 : BitVec 32 := Scalar.subi v104 c0_i32_63
  let c1_i32_64 : BitVec 32 := 1#32
  let v107 : BitVec 32 := Scalar.divsi v105 c1_i32_64
  let v108 : BitVec 32 := Scalar.muli v107 c1_i32_64
  let v109 : BitVec 32 := Scalar.addi c0_i32_63 v108
  let c1_i32_66 : BitVec 32 := 1#32
  let arg16 : BitVec 32 := Scf.iv v109 c1_i32_66 k0_t2
  let c1_i32_61 : BitVec 32 := 1#32
  let v273 : BitVec 32 := Scalar.muli arg16 c1_i32_61
  let v274 : BitVec 32 := Scalar.addi c0_i32_62 v273
  let c256_i32_145 : BitVec 32 := 256#32
  let v275 : BitVec 32 := Scalar.muli v274 c256_i32_145
  let v276 : BitVec 32 := v275
  let v277 : Index := Scalar.indexCast v276
  let c0_146 : Index := 0#32
  ![v277.toNat, 0]
def k0_mult3 (i : grid0.Coords) : BitVec 32 :=
  let arg1 : BitVec 32 := BitVec.ofNat 32 (i 1).val
  let c128_i32_51 : BitVec 32 := 128#32
  let v83 : BitVec 32 := Scalar.muli arg1 c128_i32_51
  let c0_i32_52 : BitVec 32 := 0#32
  let v85 : BitVec 1 := Scalar.cmpi .sgt v83 c0_i32_52
  let v86 : BitVec 32 := Scalar.extui v85
  let c0_i32_53 : BitVec 32 := 0#32
  let v87 : BitVec 1 := Scalar.cmpi .slt v83 c0_i32_53
  let v88 : BitVec 32 := Scalar.extui v87
  let v89 : BitVec 32 := Scalar.subi v86 v88
  let c256_i32 : BitVec 32 := 256#32
  let c0_i32_54 : BitVec 32 := 0#32
  let v90 : BitVec 1 := Scalar.cmpi .sgt c256_i32 c0_i32_54
  let v91 : BitVec 32 := Scalar.extui v90
  let c0_i32_55 : BitVec 32 := 0#32
  let v92 : BitVec 1 := Scalar.cmpi .slt c256_i32 c0_i32_55
  let v93 : BitVec 32 := Scalar.extui v92
  let v94 : BitVec 32 := Scalar.subi v91 v93
  let v95 : BitVec 1 := Scalar.cmpi .ne v89 v94
  let v96 : BitVec 32 := Scalar.remsi v83 c256_i32
  let c0_i32_56 : BitVec 32 := 0#32
  let v97 : BitVec 1 := Scalar.cmpi .ne v96 c0_i32_56
  let v98 : BitVec 1 := Scalar.andi v95 v97
  let v84 : BitVec 32 := Scalar.divsi v83 c256_i32
  let c1_i32 : BitVec 32 := 1#32
  let v99 : BitVec 32 := Scalar.subi v84 c1_i32
  let v100 : BitVec 32 := Scalar.select v98 v99 v84
  let c256_i32_67 : BitVec 32 := 256#32
  let v110 : BitVec 32 := Scalar.muli v100 c256_i32_67
  v110
def k0_off4 (i : grid0.Coords) : Fin 2 → Nat :=
  let arg1 : BitVec 32 := BitVec.ofNat 32 (i 1).val
  let c128_i32_51 : BitVec 32 := 128#32
  let v83 : BitVec 32 := Scalar.muli arg1 c128_i32_51
  let c0_i32_52 : BitVec 32 := 0#32
  let v85 : BitVec 1 := Scalar.cmpi .sgt v83 c0_i32_52
  let v86 : BitVec 32 := Scalar.extui v85
  let c0_i32_53 : BitVec 32 := 0#32
  let v87 : BitVec 1 := Scalar.cmpi .slt v83 c0_i32_53
  let v88 : BitVec 32 := Scalar.extui v87
  let v89 : BitVec 32 := Scalar.subi v86 v88
  let c256_i32 : BitVec 32 := 256#32
  let c0_i32_54 : BitVec 32 := 0#32
  let v90 : BitVec 1 := Scalar.cmpi .sgt c256_i32 c0_i32_54
  let v91 : BitVec 32 := Scalar.extui v90
  let c0_i32_55 : BitVec 32 := 0#32
  let v92 : BitVec 1 := Scalar.cmpi .slt c256_i32 c0_i32_55
  let v93 : BitVec 32 := Scalar.extui v92
  let v94 : BitVec 32 := Scalar.subi v91 v93
  let v95 : BitVec 1 := Scalar.cmpi .ne v89 v94
  let v96 : BitVec 32 := Scalar.remsi v83 c256_i32
  let c0_i32_56 : BitVec 32 := 0#32
  let v97 : BitVec 1 := Scalar.cmpi .ne v96 c0_i32_56
  let v98 : BitVec 1 := Scalar.andi v95 v97
  let v84 : BitVec 32 := Scalar.divsi v83 c256_i32
  let c1_i32 : BitVec 32 := 1#32
  let v99 : BitVec 32 := Scalar.subi v84 c1_i32
  let v100 : BitVec 32 := Scalar.select v98 v99 v84
  let c256_i32_67 : BitVec 32 := 256#32
  let v110 : BitVec 32 := Scalar.muli v100 c256_i32_67
  let v111 : BitVec 32 := v110
  let v112 : Index := Scalar.indexCast v111
  let c0_68 : Index := 0#32
  ![v112.toNat, 0]
def k0_cond2 (i : grid0.Coords) (v1 : BitVec 32) : BitVec 1 :=
  let arg1 : BitVec 32 := BitVec.ofNat 32 (i 1).val
  let c128_i32 : BitVec 32 := 128#32
  let v5 : BitVec 32 := Scalar.muli arg1 c128_i32
  let v6 : BitVec 1 := Scalar.cmpi .sge v5 v1
  let v7 : BitVec 32 := Scalar.extui v6
  let c0_i32_1 : BitVec 32 := 0#32
  let v8 : BitVec 1 := Scalar.cmpi .ne v7 c0_i32_1
  v8

def k0_cond3 (i : grid0.Coords) (v1 : BitVec 32) : BitVec 1 :=
  let arg1 : BitVec 32 := BitVec.ofNat 32 (i 1).val
  let c128_i32_2 : BitVec 32 := 128#32
  let v9 : BitVec 32 := Scalar.muli arg1 c128_i32_2
  let v10 : BitVec 1 := Scalar.cmpi .slt v9 v1
  let v11 : BitVec 32 := Scalar.extui v10
  let c0_i32_3 : BitVec 32 := 0#32
  let v12 : BitVec 1 := Scalar.cmpi .ne v11 c0_i32_3
  v12

def cc0_transform_0 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c128_i32 : BitVec 32 := 128#32
  let v2 : BitVec 32 := Scalar.addi v1 c128_i32
  let c1_i32 : BitVec 32 := 1#32
  let v3 : BitVec 32 := Scalar.subi v2 c1_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  let c0_i32_10 : BitVec 32 := 0#32
  ![arg0.toNat, v23.toNat, c0_i32_8.toNat, c0_i32_9.toNat]

def cc0_transform_1 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c128_i32 : BitVec 32 := 128#32
  let v2 : BitVec 32 := Scalar.addi v1 c128_i32
  let c1_i32 : BitVec 32 := 1#32
  let v3 : BitVec 32 := Scalar.subi v2 c1_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  let c0_i32_10 : BitVec 32 := 0#32
  ![arg0.toNat, v23.toNat, c0_i32_8.toNat, c0_i32_9.toNat]

def cc0_transform_2 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c128_i32 : BitVec 32 := 128#32
  let v2 : BitVec 32 := Scalar.addi v1 c128_i32
  let c1_i32 : BitVec 32 := 1#32
  let v3 : BitVec 32 := Scalar.subi v2 c1_i32
  let c128_i32_0 : BitVec 32 := 128#32
  let v4 : BitVec 32 := Scalar.divsi v3 c128_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32_0 c0_i32_2
  let v11 : BitVec 32 := Scalar.extui v10
  let c0_i32_3 : BitVec 32 := 0#32
  let v12 : BitVec 1 := Scalar.cmpi .slt c128_i32_0 c0_i32_3
  let v13 : BitVec 32 := Scalar.extui v12
  let v14 : BitVec 32 := Scalar.subi v11 v13
  let v15 : BitVec 1 := Scalar.cmpi .ne v9 v14
  let v16 : BitVec 32 := Scalar.remsi v3 c128_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  let c0_i32_10 : BitVec 32 := 0#32
  ![arg0.toNat, v23.toNat, c0_i32_8.toNat, c0_i32_9.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x8x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2560x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2560x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2560x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "scale_log2e" => some (((Real.sqrt 192)⁻¹ * (Real.log 2)⁻¹ : ℝ) : EReal)
  | _ => none
-- ==== ReferenceIdeal.lean ====
abbrev S24x2560x8x512 : Shape := ⟨4, ![24, 2560, 8, 512]⟩
abbrev S24x2560x8x4 : Shape := ⟨4, ![24, 2560, 8, 4]⟩
abbrev S24x2560x8x64 : Shape := ⟨4, ![24, 2560, 8, 64]⟩
abbrev S24x2560x512 : Shape := ⟨3, ![24, 2560, 512]⟩
abbrev S24x2560x4 : Shape := ⟨3, ![24, 2560, 4]⟩
abbrev S24x2560x64 : Shape := ⟨3, ![24, 2560, 64]⟩
abbrev S24 : Shape := ⟨1, ![24]⟩
abbrev S24x2560x8x4x128 : Shape := ⟨5, ![24, 2560, 8, 4, 128]⟩
abbrev S24x2560x8x4x1 : Shape := ⟨5, ![24, 2560, 8, 4, 1]⟩
abbrev S24x2560x4x128 : Shape := ⟨4, ![24, 2560, 4, 128]⟩
abbrev S24x2560x4x1 : Shape := ⟨4, ![24, 2560, 4, 1]⟩
abbrev S24x2560x8x2560 : Shape := ⟨4, ![24, 2560, 8, 2560]⟩
abbrev S_ : Shape := ⟨0, ![]⟩
abbrev S2560 : Shape := ⟨1, ![2560]⟩
abbrev S1x2560 : Shape := ⟨2, ![1, 2560]⟩
abbrev S2560x1 : Shape := ⟨2, ![2560, 1]⟩
abbrev S2560x2560 : Shape := ⟨2, ![2560, 2560]⟩
abbrev S1x2560x1x2560 : Shape := ⟨4, ![1, 2560, 1, 2560]⟩
abbrev S24x2560x8 : Shape := ⟨3, ![24, 2560, 8]⟩
abbrev S24x2560x8x1 : Shape := ⟨4, ![24, 2560, 8, 1]⟩
abbrev S24x1 : Shape := ⟨2, ![24, 1]⟩
abbrev S24x2560 : Shape := ⟨2, ![24, 2560]⟩
abbrev S24x2560x1 : Shape := ⟨3, ![24, 2560, 1]⟩
abbrev S24x2560x1x1 : Shape := ⟨4, ![24, 2560, 1, 1]⟩

abbrev nBuf : Space → Nat
  | .hbm => 78
  | .vmem => 4
  | .smem => 0
  | _ => 0

abbrev bufTy : (tb : Table) → Fin (tcTables nBuf tb) → BufTy
  | .hbm, ⟨0, _⟩ => ⟨S24x2560x8x512, .fp8e4m3⟩
  | .hbm, ⟨1, _⟩ => ⟨S24x2560x8x4, .f32⟩
  | .hbm, ⟨2, _⟩ => ⟨S24x2560x8x64, .bf16⟩
  | .hbm, ⟨3, _⟩ => ⟨S24x2560x512, .fp8e4m3⟩
  | .hbm, ⟨4, _⟩ => ⟨S24x2560x4, .f32⟩
  | .hbm, ⟨5, _⟩ => ⟨S24x2560x64, .bf16⟩
  | .hbm, ⟨6, _⟩ => ⟨S24, .i32⟩
  | .hbm, ⟨7, _⟩ => ⟨S24x2560x8x512, .bf16⟩
  | .hbm, ⟨8, _⟩ => ⟨S24x2560x512, .bf16⟩
  | .hbm, ⟨9, _⟩ => ⟨S24x2560x8x4x128, .bf16⟩
  | .hbm, ⟨10, _⟩ => ⟨S24x2560x8x4, .bf16⟩
  | .hbm, ⟨11, _⟩ => ⟨S24x2560x8x4x1, .bf16⟩
  | .hbm, ⟨12, _⟩ => ⟨S24x2560x8x4x128, .bf16⟩
  | .hbm, ⟨13, _⟩ => ⟨S24x2560x8x4x128, .bf16⟩
  | .hbm, ⟨14, _⟩ => ⟨S24x2560x8x512, .bf16⟩
  | .hbm, ⟨15, _⟩ => ⟨S24x2560x4x128, .bf16⟩
  | .hbm, ⟨16, _⟩ => ⟨S24x2560x4, .bf16⟩
  | .hbm, ⟨17, _⟩ => ⟨S24x2560x4x1, .bf16⟩
  | .hbm, ⟨18, _⟩ => ⟨S24x2560x4x128, .bf16⟩
  | .hbm, ⟨19, _⟩ => ⟨S24x2560x4x128, .bf16⟩
  | .hbm, ⟨20, _⟩ => ⟨S24x2560x512, .bf16⟩
  | .hbm, ⟨21, _⟩ => ⟨S24x2560x8x2560, .f32⟩
  | .hbm, ⟨22, _⟩ => ⟨S24x2560x8x2560, .f32⟩
  | .hbm, ⟨23, _⟩ => ⟨S24x2560x8x2560, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S24x2560x8x2560, .f32⟩
  | .hbm, ⟨29, _⟩ => ⟨S24x2560x8x2560, .f32⟩
  | .hbm, ⟨30, _⟩ => ⟨S2560, .i32⟩
  | .hbm, ⟨31, _⟩ => ⟨S1x2560, .i32⟩
  | .hbm, ⟨32, _⟩ => ⟨S2560x1, .i32⟩
  | .hbm, ⟨33, _⟩ => ⟨S2560x2560, .i32⟩
  | .hbm, ⟨34, _⟩ => ⟨S2560x2560, .i32⟩
  | .hbm, ⟨35, _⟩ => ⟨S2560x2560, .i1⟩
  | .hbm, ⟨36, _⟩ => ⟨S1x2560x1x2560, .i1⟩
  | .hbm, ⟨37, _⟩ => ⟨S_, .f32⟩
  | .hbm, ⟨38, _⟩ => ⟨S_, .f32⟩
  | .hbm, ⟨39, _⟩ => ⟨S24x2560x8x2560, .i1⟩
  | .hbm, ⟨40, _⟩ => ⟨S24x2560x8x2560, .f32⟩
  | .hbm, ⟨41, _⟩ => ⟨S24x2560x8x2560, .f32⟩
  | .hbm, ⟨42, _⟩ => ⟨S_, .f32⟩
  | .hbm, ⟨43, _⟩ => ⟨S24x2560x8, .f32⟩
  | .hbm, ⟨44, _⟩ => ⟨S24x2560x8x1, .f32⟩
  | .hbm, ⟨45, _⟩ => ⟨S24x2560x8x2560, .f32⟩
  | .hbm, ⟨46, _⟩ => ⟨S24x2560x8x2560, .f32⟩
  | .hbm, ⟨47, _⟩ => ⟨S24x2560x8x2560, .f32⟩
  | .hbm, ⟨48, _⟩ => ⟨S_, .f32⟩
  | .hbm, ⟨49, _⟩ => ⟨S24x2560x8, .f32⟩
  | .hbm, ⟨50, _⟩ => ⟨S24x2560x8x1, .f32⟩
  | .hbm, ⟨51, _⟩ => ⟨S_, .f32⟩
  | .hbm, ⟨52, _⟩ => ⟨S24x2560x8x1, .f32⟩
  | .hbm, ⟨53, _⟩ => ⟨S24x2560x8x1, .f32⟩
  | .hbm, ⟨54, _⟩ => ⟨S24x2560x8x2560, .f32⟩
  | .hbm, ⟨55, _⟩ => ⟨S24x2560x8x2560, .f32⟩
  | .hbm, ⟨56, _⟩ => ⟨S24x2560x8x2560, .bf16⟩
  | .hbm, ⟨57, _⟩ => ⟨S24x2560x8x512, .f32⟩
  | .hbm, ⟨58, _⟩ => ⟨S24x2560x8x512, .bf16⟩
  | .hbm, ⟨59, _⟩ => ⟨S24x2560x8x1, .f32⟩
  | .hbm, ⟨60, _⟩ => ⟨S24x2560x8x1, .f32⟩
  | .hbm, ⟨61, _⟩ => ⟨S24x2560x8, .f32⟩
  | .hbm, ⟨62, _⟩ => ⟨S1x2560, .i32⟩
  | .hbm, ⟨63, _⟩ => ⟨S24x1, .i32⟩
  | .hbm, ⟨64, _⟩ => ⟨S24x2560, .i32⟩
  | .hbm, ⟨65, _⟩ => ⟨S24x2560, .i32⟩
  | .hbm, ⟨66, _⟩ => ⟨S24x2560, .i1⟩
  | .hbm, ⟨67, _⟩ => ⟨S24x2560x1, .i1⟩
  | .hbm, ⟨68, _⟩ => ⟨S24x2560x1x1, .i1⟩
  | .hbm, ⟨69, _⟩ => ⟨S_, .bf16⟩
  | .hbm, ⟨70, _⟩ => ⟨S24x2560x8x512, .i1⟩
  | .hbm, ⟨71, _⟩ => ⟨S24x2560x8x512, .bf16⟩
  | .hbm, ⟨72, _⟩ => ⟨S24x2560x8x512, .bf16⟩
  | .hbm, ⟨73, _⟩ => ⟨S_, .f32⟩
  | .hbm, ⟨74, _⟩ => ⟨S_, .f32⟩
  | .hbm, ⟨75, _⟩ => ⟨S24x2560x8, .i1⟩
  | .hbm, ⟨76, _⟩ => ⟨S24x2560x8, .f32⟩
  | .hbm, ⟨77, _⟩ => ⟨S24x2560x8, .f32⟩
  | .local _ .vmem, ⟨0, _⟩ => ⟨S24x2560x8x512, .fp8e4m3⟩
  | .local _ .vmem, ⟨1, _⟩ => ⟨S24x2560x512, .fp8e4m3⟩
  | .local _ .vmem, ⟨2, _⟩ => ⟨S24x2560x8x512, .bf16⟩
  | .local _ .vmem, ⟨3, _⟩ => ⟨S24x2560x512, .bf16⟩
  | _, _ => ⟨S24x2560x8x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_v52 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v53 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x2560x8x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2560x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2560x8x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2560x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KIKit.lean ====
/- The launch kit of the attention kernel: the region's arrays and prefetched table as the launch finds them, the
   windows' blocks, where the windows are idle (nowhere), the staging and scratch memrefs, the region invariant's pieces. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-! ## The body's branch conditions -/

/-- The body's first condition: the point is the first of its sequence's. -/
abbrev cond0_0 (i : grid0.Coords) : Prop := (Scalar.cmpi .ne (Scalar.extui (Scalar.cmpi .eq (BitVec.ofNat 32 (i 1).val) 0#32)) 0#32) = 1#1
/-- It holds at the points ≡ 0 (mod 20). -/
theorem hcond0_0 : ∀ t : Fin grid0.N, cond0_0 (grid0.coords t) ↔ t.val % 20 = 0 :=
  (fun t => by
    have ht : t.val < 480 := Nat.lt_of_lt_of_eq t.isLt N_0
    have e0 : (grid0.coords t 0).val = t.val / 20 % 24 := Pipeline.Grid.coords_val t 0 (by decide) rfl
    have e1 : (grid0.coords t 1).val = t.val / 1 % 20 := Pipeline.Grid.coords_val t 1 (by decide) rfl
    simp only [cond0_0, e0, e1]
    word_cmp
   : ∀ t : Fin grid0.N, cond0_0 (grid0.coords t) ↔ t.val % 20 = 0)

/-- The two later conditions, "the tile starts at or past the length" and "the tile starts before it", are
    complementary, whatever the word compared with. -/
theorem cond3_iff (i : grid0.Coords) (w : BitVec 32) : k0_cond3 i w = 1#1 ↔ ¬ k0_cond2 i w = 1#1 := by
  have h1 : ∀ b : Bool, (Scalar.cmpi .ne (Scalar.extui (BitVec.ofBool b) : BitVec 32) 0#32 = 1#1) ↔ b = true := by decide
  have h2 : k0_cond3 i w = Scalar.cmpi .ne (Scalar.extui (BitVec.ofBool ((Scalar.muli (BitVec.ofNat 32 (i 1).val) 128#32).slt w)) : BitVec 32) 0#32 := rfl
  have h3 : k0_cond2 i w = Scalar.cmpi .ne (Scalar.extui (BitVec.ofBool (w.sle (Scalar.muli (BitVec.ofNat 32 (i 1).val) 128#32))) : BitVec 32) 0#32 := rfl
  rw [h2, h3, h1, h1]
  simp only [BitVec.slt_iff_toInt_lt, BitVec.sle_iff_toInt_le, not_le]

/-! ## Where the windows are idle -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)

/-- The outputs are never idle: at every point one of the two conditions holds. -/
theorem liveAt0_6 (hO : Ok m) (t : Fin (cfgM m hO).N) : (cfgM m hO).idle 6 (grid0.coords t) = false := by
  show (!(k0_cond2 (grid0.coords t) ((tbl m).atD 0 (k0_off1 (grid0.coords t))) == 1#1) && !(k0_cond3 (grid0.coords t) ((tbl m).atD 0 (k0_off1 (grid0.coords t))) == 1#1)) = false
  have h := cond3_iff (grid0.coords t) ((tbl m).atD 0 (k0_off1 (grid0.coords t)))
  by_cases h2 : k0_cond2 (grid0.coords t) ((tbl m).atD 0 (k0_off1 (grid0.coords t))) = 1#1
  · simp [h2]
  · simp [h.mpr h2]
theorem liveAt0_7 (hO : Ok m) (t : Fin (cfgM m hO).N) : (cfgM m hO).idle 7 (grid0.coords t) = false := liveAt0_6 m hO t

/-! ## The body as the pipeline calls it -/

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_prompt (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-! ## The kernel body on any staging memrefs: a subtype the run finds -/

/-- One staging buffer of output window 6, through which its contents are stated (`View.read_writes_of_cover`: the
    choice does not matter). -/
abbrev VO0_6 : View sig .tc .vmem S1x128x8x512 .bf16 := (Memref.whole cc0_stg6_0 : Memref sig .tc .vmem S1x128x8x512 .bf16).view
/-- One staging buffer of output window 7, through which its contents are stated (`View.read_writes_of_cover`: the
    choice does not matter). -/
abbrev VO0_7 : View sig .tc .vmem S1x128x8 .f32 := (Memref.whole cc0_stg7_0 : Memref sig .tc .vmem S1x128x8 .f32).view
/-- Each window's current staging memref at point `t`, spelled as the pipeline passes it (`bodyAt0`), and its wholeness. -/
abbrev ms0_0 (hO : Ok m) (t : Fin (cfgM m hO).N) : Memref sig .tc .vmem S1x128x8x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x8x4 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128x8x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2560x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2560x4 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2560x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x8x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x8 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S2560x640 .bf16 := Memref.whole cc0_scratch0
abbrev scM0_1 : Memref sig .tc .vmem S1024x640 .bf16 := Memref.whole cc0_scratch1
abbrev scM0_2 : Memref sig .tc .vmem S1024x128 .f32 := Memref.whole cc0_scratch2
abbrev scM0_3 : Memref sig .tc .vmem S1024x128 .f32 := Memref.whole cc0_scratch3
abbrev scM0_4 : Memref sig .tc .vmem S1024x512 .f32 := Memref.whole cc0_scratch4
/-- The scratch `arg11` the kernel carries between points, as a view: what it holds is stated through it. -/
abbrev VS0_0 : View sig .tc .vmem S2560x640 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KILoop.lean ====
/- The attention kernel's loop over the key blocks, by values: one trip is one step of the running softmax, and the
   loop leaves the state after all its trips. -/
module

public import proofs.«01_k».proof.Proof.KIKit
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

/-- What a view reads after a last write of its whole box: the payload of that write. -/
theorem read_writes_whole_cons {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f (⟨Rect.unit off s.size inb, w⟩ :: L)) = w := by
  subst h
  funext y
  have e := View.read_writes_cons_emb v f (Rect.whole s) w L y
  rwa [Rect.emb_whole_apply] at e

/-- The keys of a trip: 256 rows of the key array. -/
abbrev keysAt (i : grid0.Coords) (k : Fin (k0_t1_loop i).trips) (cs : Vec F S2560x640 .bf16) : Vec F S256x640 .bf16 :=
  View.ld cs (Rect.unit (s := S2560x640) (k0_off2 i k) S256x640.size (k0_off2_inb i k))

/-- The running softmax's state: row maxima, row sums, weighted values. -/
abbrev St (F : FTy → Type) := Vec F S1024x128 .f32 × Vec F S1024x128 .f32 × Vec F S1024x512 .f32

/-- One step of the running softmax: the keys `c`, the queries `q`, the state before. -/
def stStep (c : Vec F S256x640 .bf16) (q : Vec F S1024x640 .bf16) (s : St F) : St F :=
  (k0_pay14 c q s.1, k0_pay13 c q s.1 s.2.1, k0_pay36 (k0_pay15 c q s.1) (k0_pay16 c q s.1 s.2.2))

/-- The state before the loop. -/
def st0 : St F := (k0_pay32, k0_pay34 k0_pay33, k0_pay35)

/-- The state before trip `k`, from state `s`. -/
def stAt (i : grid0.Coords) (cs : Vec F S2560x640 .bf16) (q : Vec F S1024x640 .bf16) (s : St F) : ℕ → St F
  | 0 => s
  | k + 1 => if h : k < (k0_t1_loop i).trips then stStep (keysAt i ⟨k, h⟩ cs) q (stAt i cs q s k) else stAt i cs q s k

theorem stAt_succ (i : grid0.Coords) (cs : Vec F S2560x640 .bf16) (q : Vec F S1024x640 .bf16) (s : St F) (k : Fin (k0_t1_loop i).trips) :
    stAt i cs q s (k.val + 1) = stStep (keysAt i k cs) q (stAt i cs q s k.val) := by
  rw [stAt]; exact dif_pos k.isLt

abbrev rect13 : Rect S1024x128 := Rect.unit (s := S1024x128) ![0, 0] S1024x128.size inb_S1024x128_S1024x128_0_0
abbrev rect15 : Rect S1024x512 := Rect.unit (s := S1024x512) ![0, 0] S1024x512.size inb_S1024x512_S1024x512_0_0
abbrev rect12 : Rect S1024x640 := Rect.unit (s := S1024x640) ![0, 0] S1024x640.size inb_S1024x640_S1024x640_0_0

theorem ld12 (X : Vec F S1024x640 .bf16) : View.ld X rect12 = X := View.ld_unit_zero z2 _ X
theorem ld13 (X : Vec F S1024x128 .f32) : View.ld X rect13 = X := View.ld_unit_zero z2 _ X
theorem ld15 (X : Vec F S1024x512 .f32) : View.ld X rect15 = X := View.ld_unit_zero z2 _ X

set_option maxHeartbeats 4000000 in
/-- The pieces one trip writes. -/
theorem tripL_eq (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (k : Fin (k0_t1_loop i).trips) (f13 : BufTy.Contents (Elt F) arg13.view.ty) (f14 : BufTy.Contents (Elt F) arg14.view.ty) (f15 : BufTy.Contents (Elt F) arg15.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 k f13 f14 f15
      = ([⟨rect13, k0_pay14 (keysAt i k (arg11.view.read (Elt F) X11)) (View.ld (arg12.view.read (Elt F) X12) rect12) (View.ld (arg13.view.read (Elt F) f13) rect13)⟩],
         [⟨rect13, k0_pay13 (keysAt i k (arg11.view.read (Elt F) X11)) (View.ld (arg12.view.read (Elt F) X12) rect12) (View.ld (arg13.view.read (Elt F) f13) rect13) (View.ld (arg14.view.read (Elt F) f14) rect13)⟩],
         [⟨rect15, k0_pay36 (k0_pay15 (keysAt i k (arg11.view.read (Elt F) X11)) (View.ld (arg12.view.read (Elt F) X12) rect12) (View.ld (arg13.view.read (Elt F) f13) rect13)) (k0_pay16 (keysAt i k (arg11.view.read (Elt F) X11)) (View.ld (arg12.view.read (Elt F) X12) rect12) (View.ld (arg13.view.read (Elt F) f13) rect13) (View.ld (arg15.view.read (Elt F) f15) rect15))⟩]) := by
  unfold tripL_k0_t1
  unfold trip_k0_t1
  rfl

/-- What the three state buffers read after the first `k` trips: the state before trip `k`. -/
theorem pb_read (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    ∀ k, k ≤ (k0_t1_loop i).trips →
    arg13.view.read (Elt F) (arg13.view.writes (Elt F) G13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 k).1)
        = (stAt i (arg11.view.read (Elt F) X11) (arg12.view.read (Elt F) X12) (arg13.view.read (Elt F) G13, arg14.view.read (Elt F) G14, arg15.view.read (Elt F) G15) k).1
    ∧ arg14.view.read (Elt F) (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 k).2.1)
        = (stAt i (arg11.view.read (Elt F) X11) (arg12.view.read (Elt F) X12) (arg13.view.read (Elt F) G13, arg14.view.read (Elt F) G14, arg15.view.read (Elt F) G15) k).2.1
    ∧ arg15.view.read (Elt F) (arg15.view.writes (Elt F) G15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 k).2.2)
        = (stAt i (arg11.view.read (Elt F) X11) (arg12.view.read (Elt F) X12) (arg13.view.read (Elt F) G13, arg14.view.read (Elt F) G14, arg15.view.read (Elt F) G15) k).2.2 := by
  intro k
  induction k with
  | zero => intro _; exact ⟨rfl, rfl, rfl⟩
  | succ k ih =>
    intro hk
    obtain ⟨h13, h14, h15⟩ := ih (Nat.le_of_succ_le hk)
    have hs := stAt_succ i (arg11.view.read (Elt F) X11) (arg12.view.read (Elt F) X12) (arg13.view.read (Elt F) G13, arg14.view.read (Elt F) G14, arg15.view.read (Elt F) G15) ⟨k, hk⟩
    have hp := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 ⟨k, hk⟩
    rw [tripL_eq] at hp
    simp only [h13, h14, h15] at hp
    rw [ld12, ld13, ld13, ld15] at hp
    rw [hp, hs]
    refine ⟨?_, ?_, ?_⟩
    · exact read_writes_whole_cons (F := F) arg13.view G13 z2 _ _ _
    · exact read_writes_whole_cons (F := F) arg14.view G14 z2 _ _ _
    · exact read_writes_whole_cons (F := F) arg15.view G15 z2 _ _ _

theorem rw13 (v : View sig .tc .vmem S1024x128 .f32) (f : v.ty.Contents (Elt F)) (inb : ∀ a, (![0, 0] : Fin 2 → ℕ) a + S1024x128.size a ≤ S1024x128.size a) (w : Vec F S1024x128 .f32) (L : List (View.Piece (Elt F) S1024x128 .f32)) :
    v.read (Elt F) (v.writes (Elt F) f (⟨Rect.unit (s := S1024x128) ![0, 0] S1024x128.size inb, w⟩ :: L)) = w := read_writes_whole_cons (F := F) v f z2 inb w L
theorem rw15 (v : View sig .tc .vmem S1024x512 .f32) (f : v.ty.Contents (Elt F)) (inb : ∀ a, (![0, 0] : Fin 2 → ℕ) a + S1024x512.size a ≤ S1024x512.size a) (w : Vec F S1024x512 .f32) (L : List (View.Piece (Elt F) S1024x512 .f32)) :
    v.read (Elt F) (v.writes (Elt F) f (⟨Rect.unit (s := S1024x512) ![0, 0] S1024x512.size inb, w⟩ :: L)) = w := read_writes_whole_cons (F := F) v f z2 inb w L

/-- What state buffer 13 reads after the loop. -/
theorem pbr13 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    arg13.view.read (Elt F) (arg13.view.writes (Elt F) G13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 (Scf.trips (k0_t1_loop i).lb (k0_t1_loop i).ub (k0_t1_loop i).st)).1)
        = (stAt i (arg11.view.read (Elt F) X11) (arg12.view.read (Elt F) X12) (arg13.view.read (Elt F) G13, arg14.view.read (Elt F) G14, arg15.view.read (Elt F) G15) (k0_t1_loop i).trips).1 :=
  (pb_read c i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 _ le_rfl).1

/-- What state buffer 14 reads after the loop. -/
theorem pbr14 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    arg14.view.read (Elt F) (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 (Scf.trips (k0_t1_loop i).lb (k0_t1_loop i).ub (k0_t1_loop i).st)).2.1)
        = (stAt i (arg11.view.read (Elt F) X11) (arg12.view.read (Elt F) X12) (arg13.view.read (Elt F) G13, arg14.view.read (Elt F) G14, arg15.view.read (Elt F) G15) (k0_t1_loop i).trips).2.1 :=
  (pb_read c i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 _ le_rfl).2.1

/-- What state buffer 15 reads after the loop. -/
theorem pbr15 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    arg15.view.read (Elt F) (arg15.view.writes (Elt F) G15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 (Scf.trips (k0_t1_loop i).lb (k0_t1_loop i).ub (k0_t1_loop i).st)).2.2)
        = (stAt i (arg11.view.read (Elt F) X11) (arg12.view.read (Elt F) X12) (arg13.view.read (Elt F) G13, arg14.view.read (Elt F) G14, arg15.view.read (Elt F) G15) (k0_t1_loop i).trips).2.2 :=
  (pb_read c i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 _ le_rfl).2.2

/-- The loop for the remainder writes nothing. -/
theorem pb2_zero (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st) = ([], [], []) := by
  have h : Scf.trips (k0_t2_loop i).lb (k0_t2_loop i).ub (k0_t2_loop i).st = 0 := Nat.le_zero.1 (k0_t2_abs i).2.1
  rw [h]; rfl
theorem pb2_zero1 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st)).1 = [] := by rw [pb2_zero]
theorem pb2_zero2 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st)).2.1 = [] := by rw [pb2_zero]
theorem pb2_zero3 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st)).2.2 = [] := by rw [pb2_zero]

end Cert.KernelIdeal.Hand

end
-- ==== Proof.KIOffs.lean ====
/- The closed forms of the offsets and trip counts of a point's loops over the key blocks. -/
module

public import proofs.«01_k».proof.Proof.KIKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The number of whole key blocks before a point's tokens, as the word the body computes. -/
abbrev nFull (i : grid0.Coords) : BitVec 32 :=
  let v83 : BitVec 32 := Scalar.muli (BitVec.ofNat 32 (i 1).val) 128#32
  Scalar.select (Scalar.andi (Scalar.cmpi .ne (Scalar.subi (Scalar.extui (Scalar.cmpi .sgt v83 0#32)) (Scalar.extui (Scalar.cmpi .slt v83 0#32))) 1#32) (Scalar.cmpi .ne (Scalar.remsi v83 256#32) 0#32)) (Scalar.subi (Scalar.divsi v83 256#32) 1#32) (Scalar.divsi v83 256#32)

/-- Two token blocks make a key block: the word is half the token block's number. -/
theorem nFull_eq (i : grid0.Coords) : nFull i = BitVec.ofNat 32 ((i 1).val / 2) := by
  have h : ∀ n : Fin 20, (let v83 : BitVec 32 := Scalar.muli (BitVec.ofNat 32 n.val) 128#32
      Scalar.select (Scalar.andi (Scalar.cmpi .ne (Scalar.subi (Scalar.extui (Scalar.cmpi .sgt v83 0#32)) (Scalar.extui (Scalar.cmpi .slt v83 0#32))) (Scalar.subi (Scalar.extui (Scalar.cmpi .sgt 256#32 0#32)) (Scalar.extui (Scalar.cmpi .slt 256#32 0#32)))) (Scalar.cmpi .ne (Scalar.remsi v83 256#32) 0#32)) (Scalar.subi (Scalar.divsi v83 256#32) 1#32) (Scalar.divsi v83 256#32)) = BitVec.ofNat 32 (n.val / 2) := by decide +kernel
  exact h (i 1)

/-- The last key block begins at key `256 · (i / 2)`. -/
theorem k0_off4_eq (i : grid0.Coords) : k0_off4 i = ![256 * ((i 1).val / 2), 0] := by
  have h : ∀ n : Fin 20, (Scalar.indexCast (Scalar.muli (BitVec.ofNat 32 (n.val / 2)) 256#32) : BitVec 32).toNat = 256 * (n.val / 2) := by decide +kernel
  have e : k0_off4 i = ![(Scalar.indexCast (Scalar.muli (nFull i) 256#32) : BitVec 32).toNat, 0] := rfl
  rw [e, nFull_eq, h (i 1)]
instance closedOff_k0_off4 (i : grid0.Coords) : ClosedOff (k0_off4 i) := ⟨![256 * ((i 1).val / 2), 0], k0_off4_eq i⟩

/-- Key block `k` of the loop begins at key `256 · k`. -/
theorem k0_off2_eq (i : grid0.Coords) (k : Fin (k0_t1_loop i).trips) : k0_off2 i k = ![256 * k.val, 0] := by
  have hk : k.val < 9 := Nat.lt_of_lt_of_le k.isLt (k0_t1_abs i).2.1
  have h : ∀ n : Fin 9, (Scalar.indexCast (Scalar.muli (Scalar.addi 0#32 (Scalar.muli (Scf.iv 0#32 1#32 n.val) 1#32)) 256#32) : BitVec 32).toNat = 256 * n.val := by decide +kernel
  have e : k0_off2 i k = ![(Scalar.indexCast (Scalar.muli (Scalar.addi 0#32 (Scalar.muli (Scf.iv 0#32 1#32 k.val) 1#32)) 256#32) : BitVec 32).toNat, 0] := rfl
  rw [e, h ⟨k.val, hk⟩]

/-- The loop runs over the `i / 2` whole key blocks before the point's own, -/
theorem trips1 (i : grid0.Coords) : (k0_t1_loop i).trips = (i 1).val / 2 := by
  have h : ∀ n : Fin 20, Scf.trips 0#32 (Scalar.addi 0#32 (Scalar.muli (Scalar.divsi (Scalar.subi (Scalar.divsi (Scalar.addi (Scalar.subi (BitVec.ofNat 32 (n.val / 2)) 0#32) (Scalar.subi 1#32 1#32)) 1#32) 0#32) 1#32) 1#32)) 1#32 = n.val / 2 := by decide +kernel
  have e : (k0_t1_loop i).trips = Scf.trips 0#32 (Scalar.addi 0#32 (Scalar.muli (Scalar.divsi (Scalar.subi (Scalar.divsi (Scalar.addi (Scalar.subi (nFull i) 0#32) (Scalar.subi 1#32 1#32)) 1#32) 0#32) 1#32) 1#32)) 1#32 := rfl
  rw [e, nFull_eq]; exact h (i 1)

/-- and the loop for the remainder runs no trip. -/
theorem trips2 (i : grid0.Coords) : (k0_t2_loop i).trips = 0 := Nat.le_zero.1 (k0_t2_abs i).2.1

end Cert.KernelIdeal.Hand

end
-- ==== Proof.KIVals.lean ====
/- What one point of the attention kernel leaves, as values: the key array dequantised from a batch's blocks, the query
   block, the softmax state after the point's key blocks, and the two output blocks. -/
module

public import proofs.«01_k».proof.Proof.KILoop
public import proofs.«01_k».proof.Proof.KIOffs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The length word of a point's batch. -/
abbrev lenW (c : Dev nD) (i : grid0.Coords) (xt0 : TbBuf0 (F := F) c tbM0_0) : BitVec 32 :=
  tbM0_0.view.readAt (Elt F) (Rect.unit (s := S24) (k0_off1 i) S1.size (k0_off1_inb i)).toLoadRect xt0 (Shape.Idx.first (Nat.lt_of_lt_of_eq Nat.one_pos (Eq.symm numel1_S1)))

/-- The pieces the first point of a batch stores into the key array (last first): the rope keys, then the four groups of
    codes times scales. -/
abbrev csPieces (x3 : Vec F S1x2560x512 .fp8e4m3) (x4 : Vec F S1x2560x4 .f32) (x5 : Vec F S1x2560x64 .bf16) : List (View.Piece (Elt F) S2560x640 .bf16) :=
  [⟨Rect.unit (s := S2560x640) ![0, 512] S2560x128.size inb_S2560x640_S2560x128_0_512, k0_pay2 (View.ld x5 (Rect.unit (s := S1x2560x64) ![0, 0, 0] S1x2560x64.size inb_S1x2560x64_S1x2560x64_0_0_0))⟩,
   ⟨Rect.unit (s := S2560x640) ![0, 384] S2560x128.size inb_S2560x640_S2560x128_0_384, k0_pay1 (View.ld x3 (Rect.unit (s := S1x2560x512) ![0, 0, 384] S1x2560x128.size inb_S1x2560x512_S1x2560x128_0_0_384)) (View.ld x4 (Rect.unit (s := S1x2560x4) ![0, 0, 3] S1x2560x1.size inb_S1x2560x4_S1x2560x1_0_0_3))⟩,
   ⟨Rect.unit (s := S2560x640) ![0, 256] S2560x128.size inb_S2560x640_S2560x128_0_256, k0_pay8 (View.ld x3 (Rect.unit (s := S1x2560x512) ![0, 0, 256] S1x2560x128.size inb_S1x2560x512_S1x2560x128_0_0_256)) (View.ld x4 (Rect.unit (s := S1x2560x4) ![0, 0, 2] S1x2560x1.size inb_S1x2560x4_S1x2560x1_0_0_2))⟩,
   ⟨Rect.unit (s := S2560x640) ![0, 128] S2560x128.size inb_S2560x640_S2560x128_0_128, k0_pay7 (View.ld x3 (Rect.unit (s := S1x2560x512) ![0, 0, 128] S1x2560x128.size inb_S1x2560x512_S1x2560x128_0_0_128)) (View.ld x4 (Rect.unit (s := S1x2560x4) ![0, 0, 1] S1x2560x1.size inb_S1x2560x4_S1x2560x1_0_0_1))⟩,
   ⟨Rect.unit (s := S2560x640) ![0, 0] S2560x128.size inb_S2560x640_S2560x128_0_0, k0_pay6 (View.ld x3 (Rect.unit (s := S1x2560x512) ![0, 0, 0] S1x2560x128.size inb_S1x2560x512_S1x2560x128_0_0_0)) (View.ld x4 (Rect.unit (s := S1x2560x4) ![0, 0, 0] S1x2560x1.size inb_S1x2560x4_S1x2560x1_0_0_0))⟩]

/-- The key array of a batch. -/
def csOf (x3 : Vec F S1x2560x512 .fp8e4m3) (x4 : Vec F S1x2560x4 .f32) (x5 : Vec F S1x2560x64 .bf16) : Vec F S2560x640 .bf16 :=
  View.canon (csPieces x3 x4 x5)

/-- The pieces a point stores into the query block (last first). -/
abbrev qsPieces (x0 : Vec F S1x128x8x512 .fp8e4m3) (x1 : Vec F S1x128x8x4 .f32) (x2 : Vec F S1x128x8x64 .bf16) : List (View.Piece (Elt F) S1024x640 .bf16) :=
  [⟨Rect.unit (s := S1024x640) ![0, 512] S1024x128.size inb_S1024x640_S1024x128_0_512, k0_pay31 (View.ld x2 (Rect.unit (s := S1x128x8x64) ![0, 0, 0, 0] S1x128x8x64.size inb_S1x128x8x64_S1x128x8x64_0_0_0_0))⟩,
   ⟨Rect.unit (s := S1024x640) ![0, 384] S1024x128.size inb_S1024x640_S1024x128_0_384, k0_pay30 (View.ld x0 (Rect.unit (s := S1x128x8x512) ![0, 0, 0, 384] S1x128x8x128.size inb_S1x128x8x512_S1x128x8x128_0_0_0_384)) (View.ld x1 (Rect.unit (s := S1x128x8x4) ![0, 0, 0, 3] S1x128x8x1.size inb_S1x128x8x4_S1x128x8x1_0_0_0_3))⟩,
   ⟨Rect.unit (s := S1024x640) ![0, 256] S1024x128.size inb_S1024x640_S1024x128_0_256, k0_pay29 (k0_pay27 (View.ld x0 (Rect.unit (s := S1x128x8x512) ![0, 0, 0, 256] S1x128x8x128.size inb_S1x128x8x512_S1x128x8x128_0_0_0_256))) (k0_pay28 (View.ld x1 (Rect.unit (s := S1x128x8x4) ![0, 0, 0, 2] S1x128x8x1.size inb_S1x128x8x4_S1x128x8x1_0_0_0_2)))⟩,
   ⟨Rect.unit (s := S1024x640) ![0, 128] S1024x128.size inb_S1024x640_S1024x128_0_128, k0_pay26 (View.ld x0 (Rect.unit (s := S1x128x8x512) ![0, 0, 0, 128] S1x128x8x128.size inb_S1x128x8x512_S1x128x8x128_0_0_0_128)) (View.ld x1 (Rect.unit (s := S1x128x8x4) ![0, 0, 0, 1] S1x128x8x1.size inb_S1x128x8x4_S1x128x8x1_0_0_0_1))⟩,
   ⟨Rect.unit (s := S1024x640) ![0, 0] S1024x128.size inb_S1024x640_S1024x128_0_0, k0_pay25 (View.ld x0 (Rect.unit (s := S1x128x8x512) ![0, 0, 0, 0] S1x128x8x128.size inb_S1x128x8x512_S1x128x8x128_0_0_0_0)) (View.ld x1 (Rect.unit (s := S1x128x8x4) ![0, 0, 0, 0] S1x128x8x1.size inb_S1x128x8x4_S1x128x8x1_0_0_0_0))⟩]

/-- The query block of a point. -/
def qsOf (x0 : Vec F S1x128x8x512 .fp8e4m3) (x1 : Vec F S1x128x8x4 .f32) (x2 : Vec F S1x128x8x64 .bf16) : Vec F S1024x640 .bf16 :=
  View.canon (qsPieces x0 x1 x2)

theorem cs_cover (x3 : Vec F S1x2560x512 .fp8e4m3) (x4 : Vec F S1x2560x4 .f32) (x5 : Vec F S1x2560x64 .bf16) :
    ∀ y, ∃ p ∈ csPieces x3 x4 x5, y ∈ p.1.set := View.cover_of_tiledL _ S2560x128.size (by sl_kernel_rfl)

theorem qs_cover (x0 : Vec F S1x128x8x512 .fp8e4m3) (x1 : Vec F S1x128x8x4 .f32) (x2 : Vec F S1x128x8x64 .bf16) :
    ∀ y, ∃ p ∈ qsPieces x0 x1 x2, y ∈ p.1.set := View.cover_of_tiledL _ S1024x128.size (by sl_kernel_rfl)

theorem qs_read (v : View sig .tc .vmem S1024x640 .bf16) (f : v.ty.Contents (Elt F)) (x0 : Vec F S1x128x8x512 .fp8e4m3) (x1 : Vec F S1x128x8x4 .f32) (x2 : Vec F S1x128x8x64 .bf16) :
    v.read (Elt F) (v.writes (Elt F) f (qsPieces x0 x1 x2)) = qsOf x0 x1 x2 := View.read_writes_eq_canon (Val := Elt F) v _ _ (qs_cover x0 x1 x2)

theorem cs_read (v : View sig .tc .vmem S2560x640 .bf16) (f : v.ty.Contents (Elt F)) (x3 : Vec F S1x2560x512 .fp8e4m3) (x4 : Vec F S1x2560x4 .f32) (x5 : Vec F S1x2560x64 .bf16) :
    v.read (Elt F) (v.writes (Elt F) f (csPieces x3 x4 x5)) = csOf x3 x4 x5 := View.read_writes_eq_canon (Val := Elt F) v _ _ (cs_cover x3 x4 x5)

/-- The last key block of a point. -/
abbrev lastKeys (i : grid0.Coords) (cs : Vec F S2560x640 .bf16) : Vec F S256x640 .bf16 :=
  View.ld cs (Rect.unit (s := S2560x640) (k0_off4 i) S256x640.size (k0_off4_inb i))

/-- The masked scores against the last key block. -/
abbrev lastScores (i : grid0.Coords) (cs : Vec F S2560x640 .bf16) (q : Vec F S1024x640 .bf16) : FVec F S1024x256 .f32 :=
  k0_pay38 (BitVec.ofNat 32 (i 1).val) (nFull i) (lastKeys i cs) q

/-- The state after the loop. -/
def stLoop (i : grid0.Coords) (cs : Vec F S2560x640 .bf16) (q : Vec F S1024x640 .bf16) : St F :=
  stAt i cs q st0 (k0_t1_loop i).trips

/-- The state after the last key block. -/
def stEnd (i : grid0.Coords) (cs : Vec F S2560x640 .bf16) (q : Vec F S1024x640 .bf16) : St F :=
  (k0_pay43 (lastScores i cs q) (stLoop i cs q).1,
   k0_pay42 (lastScores i cs q) (stLoop i cs q).1 (stLoop i cs q).2.1,
   k0_pay44 (lastKeys i cs) (lastScores i cs q) (stLoop i cs q).1 (stLoop i cs q).2.2)

/-- Which rows of the block are tokens before the length. -/
abbrev validM (i : grid0.Coords) (w : BitVec 32) : IVec S1024x128 1 :=
  k0_pay47 (F := F) w (Scalar.muli (BitVec.ofNat 32 (i 1).val) 128#32) (iota .tc S1024x128 32 [0] iota_S1024x128_d0_w32) 8#32 k0_pay46

/-- The pieces of the first output block (last first), from the final state. -/
abbrev outPieces (i : grid0.Coords) (w : BitVec 32) (s : St F) : List (View.Piece (Elt F) S1x128x8x512 .bf16) :=
  [⟨Rect.unit (s := S1x128x8x512) ![0, 0, 0, 384] S1x128x8x128.size inb_S1x128x8x512_S1x128x8x128_0_0_0_384, k0_pay52 (k0_pay45 s.2.1) (validM (F := F) i w) (View.ld s.2.2 (Rect.unit (s := S1024x512) ![0, 384] S1024x128.size inb_S1024x512_S1024x128_0_384))⟩,
   ⟨Rect.unit (s := S1x128x8x512) ![0, 0, 0, 256] S1x128x8x128.size inb_S1x128x8x512_S1x128x8x128_0_0_0_256, k0_pay51 (k0_pay45 s.2.1) (validM (F := F) i w) (View.ld s.2.2 (Rect.unit (s := S1024x512) ![0, 256] S1024x128.size inb_S1024x512_S1024x128_0_256))⟩,
   ⟨Rect.unit (s := S1x128x8x512) ![0, 0, 0, 128] S1x128x8x128.size inb_S1x128x8x512_S1x128x8x128_0_0_0_128, k0_pay50 (k0_pay49 w (k0_pay45 s.2.1) (Scalar.muli (BitVec.ofNat 32 (i 1).val) 128#32) (iota .tc S1024x128 32 [0] iota_S1024x128_d0_w32) 8#32 k0_pay46 (View.ld s.2.2 (Rect.unit (s := S1024x512) ![0, 128] S1024x128.size inb_S1024x512_S1024x128_0_128)))⟩,
   ⟨Rect.unit (s := S1x128x8x512) ![0, 0, 0, 0] S1x128x8x128.size inb_S1x128x8x512_S1x128x8x128_0_0_0_0, k0_pay48 w (k0_pay45 s.2.1) (Scalar.muli (BitVec.ofNat 32 (i 1).val) 128#32) (iota .tc S1024x128 32 [0] iota_S1024x128_d0_w32) 8#32 k0_pay46 (View.ld s.2.2 (Rect.unit (s := S1024x512) ![0, 0] S1024x128.size inb_S1024x512_S1024x128_0_0))⟩]

/-- The two output blocks from the final state. -/
def outO (i : grid0.Coords) (w : BitVec 32) (s : St F) : Vec F S1x128x8x512 .bf16 := View.canon (outPieces i w s)
def outL (i : grid0.Coords) (w : BitVec 32) (s : St F) : Vec F S1x128x8 .f32 :=
  k0_pay5 (k0_pay53 s.2.1 (validM (F := F) i w) s.1) k0_pay54 k0_pay55

theorem out_cover (i : grid0.Coords) (w : BitVec 32) (s : St F) :
    ∀ y, ∃ p ∈ outPieces i w s, y ∈ p.1.set := View.cover_of_tiledL _ S1x128x8x128.size (by sl_kernel_rfl)

/-- Four stores of 128 columns each cover the output block. -/
theorem out_read (v : View sig .tc .vmem S1x128x8x512 .bf16) (f : v.ty.Contents (Elt F)) (p3 p2 p1 p0 : Vec F S1x128x8x128 .bf16) :
    v.read (Elt F) (v.writes (Elt F) f [⟨Rect.unit (s := S1x128x8x512) ![0, 0, 0, 384] S1x128x8x128.size inb_S1x128x8x512_S1x128x8x128_0_0_0_384, p3⟩,
      ⟨Rect.unit (s := S1x128x8x512) ![0, 0, 0, 256] S1x128x8x128.size inb_S1x128x8x512_S1x128x8x128_0_0_0_256, p2⟩,
      ⟨Rect.unit (s := S1x128x8x512) ![0, 0, 0, 128] S1x128x8x128.size inb_S1x128x8x512_S1x128x8x128_0_0_0_128, p1⟩,
      ⟨Rect.unit (s := S1x128x8x512) ![0, 0, 0, 0] S1x128x8x128.size inb_S1x128x8x512_S1x128x8x128_0_0_0_0, p0⟩])
    = View.canon [⟨Rect.unit (s := S1x128x8x512) ![0, 0, 0, 384] S1x128x8x128.size inb_S1x128x8x512_S1x128x8x128_0_0_0_384, p3⟩,
      ⟨Rect.unit (s := S1x128x8x512) ![0, 0, 0, 256] S1x128x8x128.size inb_S1x128x8x512_S1x128x8x128_0_0_0_256, p2⟩,
      ⟨Rect.unit (s := S1x128x8x512) ![0, 0, 0, 128] S1x128x8x128.size inb_S1x128x8x512_S1x128x8x128_0_0_0_128, p1⟩,
      ⟨Rect.unit (s := S1x128x8x512) ![0, 0, 0, 0] S1x128x8x128.size inb_S1x128x8x512_S1x128x8x128_0_0_0_0, p0⟩] :=
  View.read_writes_eq_canon (Val := Elt F) v _ _ (View.cover_of_tiledL _ S1x128x8x128.size (by sl_kernel_rfl))

open Classical in
/-- The first output block a point leaves: zeros past the length, else the attention output. -/
def out6 (i : grid0.Coords) (w : BitVec 32) (x0 : Vec F S1x128x8x512 .fp8e4m3) (x1 : Vec F S1x128x8x4 .f32) (x2 : Vec F S1x128x8x64 .bf16) (cs : Vec F S2560x640 .bf16) : Vec F S1x128x8x512 .bf16 :=
  if k0_cond2 i w = 1#1 then k0_pay3 else outO i w (stEnd i cs (qsOf x0 x1 x2))

open Classical in
/-- The second output block a point leaves. -/
def out7 (i : grid0.Coords) (w : BitVec 32) (x0 : Vec F S1x128x8x512 .fp8e4m3) (x1 : Vec F S1x128x8x4 .f32) (x2 : Vec F S1x128x8x64 .bf16) (cs : Vec F S2560x640 .bf16) : Vec F S1x128x8 .f32 :=
  if k0_cond2 i w = 1#1 then k0_pay4 else outL i w (stEnd i cs (qsOf x0 x1 x2))

end Cert.KernelIdeal.Hand

end
-- ==== Proof.KIRunNC.lean ====
/- One point of the attention kernel run through: after the first of its batch, with tokens before the length. -/
module

public import proofs.«01_k».proof.Proof.KIVals

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point after the first of its batch, with tokens before the length. -/
theorem runNC (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0) (xs0 : Vec F S2560x640 .bf16)
    (hc0 : ¬cond0_0 i) (hc1 : ¬k0_cond2 i (lenW c i xt0) = 1#1) (hc2 : k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 xs0) ∗ owns (c : Thread nD τ) arg10 fullShare (out7 i (lenW c i xt0) x0 x1 x2 xs0) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  have htr : (k0_t2_loop i).trips = 0 := trips2 i
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_neg hc1]
    sl_unfold_words
    rw [pb2_zero1, pb2_zero2, pb2_zero3]
    simp (config := {proj := false}) only [View.readCov, View.readAt_eq_ld, List.nil_append, View.writes_append, harg3.read_unread, harg4.read_unread, harg5.read_unread, harg11.read_unread, rw13, rw15]
    rw [pbr13, pbr14, pbr15]
    simp (config := {proj := false}) only [rw13, rw15, ld13, ld15, ld12, harg11.read_unread, qs_read]
    rw [out_read]
    simp (config := {proj := false}) only [outO, outPieces, validM, stEnd, stLoop, st0, lastScores, lastKeys, lenW, View.readAt_eq_ld]
    rfl
  isplitl [H7]
  · iexists _; isplitr; swap; · iexact H7
    ipureintro
    rw [out7, if_neg hc1]
    sl_unfold_words
    rw [pb2_zero1, pb2_zero2]
    simp (config := {proj := false}) only [View.readCov, View.readAt_eq_ld, List.nil_append, View.writes_append, harg3.read_unread, harg4.read_unread, harg5.read_unread, harg11.read_unread, rw13, rw15]
    rw [pbr13, pbr14]
    simp (config := {proj := false}) only [rw13, rw15, ld13, ld15, ld12, harg11.read_unread, qs_read]
    simp (config := {proj := false}) only [outL, validM, stEnd, stLoop, st0, lastScores, lastKeys, lenW, View.readAt_eq_ld]
    exact read_writes_whole_cons (F := F) arg10.view _ z3 _ _ _
  isplitl [HS0]
  · iexists _; isplitr; · ipureintro; exact harg11.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.KernelIdeal.Hand

end
-- ==== Proof.KIRunFC.lean ====
/- One point of the attention kernel run through: that opens a batch, with tokens before the length. -/
module

public import proofs.«01_k».proof.Proof.KIVals

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point that opens a batch, with tokens before the length. -/
theorem runFC (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0)
    (hc0 : cond0_0 i) (hc1 : ¬k0_cond2 i (lenW c i xt0) = 1#1) (hc2 : k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 (csOf x3 x4 x5)) ∗ owns (c : Thread nD τ) arg10 fullShare (out7 i (lenW c i xt0) x0 x1 x2 (csOf x3 x4 x5)) ∗ owns (c : Thread nD τ) arg11 fullShare (csOf x3 x4 x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  have htr : (k0_t2_loop i).trips = 0 := trips2 i
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_neg hc1]
    sl_unfold_words
    rw [pb2_zero1, pb2_zero2, pb2_zero3]
    simp (config := {proj := false}) only [View.readCov, View.readAt_eq_ld, List.nil_append, View.writes_append, harg3.read_unread, harg4.read_unread, harg5.read_unread, harg6.read_unread, harg7.read_unread, harg8.read_unread, cs_read, rw13, rw15]
    rw [pbr13, pbr14, pbr15]
    simp (config := {proj := false}) only [rw13, rw15, ld13, ld15, ld12, harg6.read_unread, harg7.read_unread, harg8.read_unread, cs_read, qs_read]
    rw [cs_read arg11.view _ x3 x4 x5]
    rw [out_read]
    simp (config := {proj := false}) only [outO, outPieces, validM, stEnd, stLoop, st0, lastScores, lastKeys, lenW, View.readAt_eq_ld]
    rfl
  isplitl [H7]
  · iexists _; isplitr; swap; · iexact H7
    ipureintro
    rw [out7, if_neg hc1]
    sl_unfold_words
    rw [pb2_zero1, pb2_zero2]
    simp (config := {proj := false}) only [View.readCov, View.readAt_eq_ld, List.nil_append, View.writes_append, harg3.read_unread, harg4.read_unread, harg5.read_unread, harg6.read_unread, harg7.read_unread, harg8.read_unread, cs_read, rw13, rw15]
    rw [pbr13, pbr14]
    simp (config := {proj := false}) only [rw13, rw15, ld13, ld15, ld12, harg6.read_unread, harg7.read_unread, harg8.read_unread, cs_read, qs_read]
    rw [cs_read arg11.view _ x3 x4 x5]
    simp (config := {proj := false}) only [outL, validM, stEnd, stLoop, st0, lastScores, lastKeys, lenW, View.readAt_eq_ld]
    exact read_writes_whole_cons (F := F) arg10.view _ z3 _ _ _
  isplitl [HS0]
  · iexists _; isplitr; swap; · iexact HS0
    ipureintro
    sl_unfold_words
    simp only [View.readAt_eq_ld, harg6.read_unread, harg7.read_unread, harg8.read_unread]
    exact cs_read arg11.view _ x3 x4 x5
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.KernelIdeal.Hand

end
-- ==== Proof.KIRunNS.lean ====
/- One point of the attention kernel run through: after the first of its batch, past the length. -/
module

public import proofs.«01_k».proof.Proof.KIVals

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point after the first of its batch, past the length. -/
theorem runNS (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0) (xs0 : Vec F S2560x640 .bf16)
    (hc0 : ¬cond0_0 i) (hc1 : k0_cond2 i (lenW c i xt0) = 1#1) (hc2 : ¬k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 xs0) ∗ owns (c : Thread nD τ) arg10 fullShare (out7 i (lenW c i xt0) x0 x1 x2 xs0) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_pos hc1]
    exact read_writes_whole_cons (F := F) arg9.view _ z4 _ _ _
  isplitl [H7]
  · iexists _; isplitr; swap; · iexact H7
    ipureintro
    rw [out7, if_pos hc1]
    exact read_writes_whole_cons (F := F) arg10.view _ z3 _ _ _
  isplitl [HS0]
  · iexists _; isplitr; · ipureintro; exact harg11.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.KernelIdeal.Hand

end
-- ==== Proof.KIRunFS.lean ====
/- One point of the attention kernel run through: that opens a batch, past the length. -/
module

public import proofs.«01_k».proof.Proof.KIVals

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point that opens a batch, past the length. -/
theorem runFS (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0)
    (hc0 : cond0_0 i) (hc1 : k0_cond2 i (lenW c i xt0) = 1#1) (hc2 : ¬k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 (csOf x3 x4 x5)) ∗ owns (c : Thread nD τ) arg10 fullShare (out7 i (lenW c i xt0) x0 x1 x2 (csOf x3 x4 x5)) ∗ owns (c : Thread nD τ) arg11 fullShare (csOf x3 x4 x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_pos hc1]
    exact read_writes_whole_cons (F := F) arg9.view _ z4 _ _ _
  isplitl [H7]
  · iexists _; isplitr; swap; · iexact H7
    ipureintro
    rw [out7, if_pos hc1]
    exact read_writes_whole_cons (F := F) arg10.view _ z3 _ _ _
  isplitl [HS0]
  · iexists _; isplitr; swap; · iexact HS0
    ipureintro
    sl_unfold_words
    simp only [View.readAt_eq_ld, harg6.read_unread, harg7.read_unread, harg8.read_unread]
    exact cs_read arg11.view _ x3 x4 x5
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.KernelIdeal.Hand

end
-- ==== Proof.KIFrame.lean ====
/- The pipeline's run: what the kernel leaves in every output block at every point, and with it the launch. The key
   array is carried from point to point: the first point of a batch stores it, the others read it. -/
module

public import proofs.«01_k».proof.Proof.KIRunNC
public import proofs.«01_k».proof.Proof.KIRunFC
public import proofs.«01_k».proof.Proof.KIRunNS
public import proofs.«01_k».proof.Proof.KIRunFS

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (m : (ℓ : Loc nD τ sig) → Buf (Elt F) ℓ) (ρ : Dev nD → PrngReg)

/-- The key array after point `n`: made anew at the first point of a batch, kept at the others. -/
def keysOf (hO : Ok m) (c : Dev nD) : (n : ℕ) → n < (cfgM m hO).N → Vec F S2560x640 .bf16
  | 0, h => csOf (iblk m hO c 3 ⟨0, h⟩) (iblk m hO c 4 ⟨0, h⟩) (iblk m hO c 5 ⟨0, h⟩)
  | n + 1, h =>
    if (n + 1) % 20 = 0 then csOf (iblk m hO c 3 ⟨n + 1, h⟩) (iblk m hO c 4 ⟨n + 1, h⟩) (iblk m hO c 5 ⟨n + 1, h⟩)
    else keysOf hO c n (Nat.lt_of_succ_lt h)

/-- At the first point of a batch the key array is that batch's. -/
theorem keysOf_first (hO : Ok m) (c : Dev nD) (t : Fin (cfgM m hO).N) (h0 : t.val % 20 = 0) :
    keysOf m hO c t.val t.isLt = csOf (iblk m hO c 3 t) (iblk m hO c 4 t) (iblk m hO c 5 t) := by
  obtain ⟨n, hn⟩ := t
  cases n with
  | zero => rfl
  | succ n => exact if_pos h0

/-- At any other point it is what the point before left. -/
theorem keysOf_next (hO : Ok m) (c : Dev nD) (t : Fin (cfgM m hO).N) (h0 : ¬ t.val % 20 = 0) :
    keysOf m hO c t.val t.isLt = keysOf m hO c (t.val - 1) (Nat.lt_of_le_of_lt (Nat.sub_le _ _) t.isLt) := by
  obtain ⟨n, hn⟩ := t
  cases n with
  | zero => exact absurd rfl h0
  | succ n => exact if_neg h0

/-- The two blocks point `t` leaves. -/
def left6 (hO : Ok m) (c : Dev nD) (t : Fin (cfgM m hO).N) : Vec F S1x128x8x512 .bf16 :=
  out6 (grid0.coords t) (lenW c (grid0.coords t) (tbl m 0)) (iblk m hO c 0 t) (iblk m hO c 1 t) (iblk m hO c 2 t) (keysOf m hO c t.val t.isLt)
def left7 (hO : Ok m) (c : Dev nD) (t : Fin (cfgM m hO).N) : Vec F S1x128x8 .f32 :=
  out7 (grid0.coords t) (lenW c (grid0.coords t) (tbl m 0)) (iblk m hO c 0 t) (iblk m hO c 1 t) (iblk m hO c 2 t) (keysOf m hO c t.val t.isLt)

/-- The invariant before point `n`: at the first point the scratch at anything, afterwards the key array at what the point
    before left; the other scratch, the generator register at some state, and the table. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (keysOf m hO c n hn) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (keysOf m hO c n hn) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare (keysOf m hO c (n - 1) (by omega)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them; after the body at point `t` each
    input's buffer at its block and each output's at what the point leaves; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => left6 m hO c t
    | ⟨7, _⟩ => left7 m hO c t
  Φ t := PhiS m hO c t.val (Nat.le_of_lt_succ t.isLt)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- The invariant at a point's start, restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = left6 m hO c t := by dsimp only [dats]; try rfl
theorem after0_7 (hO : Ok m) (c : Dev nD) (t : Fin (cfgM m hO).N) : (dats m hO 0 c).after 7 t = left7 m hO c t := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 14400000 in
/-- The body at any point: the inputs' buffers hold their blocks; whether the point is the first of its batch, and whether
    its tile lies past the length, say which run applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  unfold left6 left7
  by_cases h0 : t.val % 20 = 0
  · rw [keysOf_first m hO c t h0]
    by_cases hz : t.val = 0
    · by_cases h2 : k0_cond2 (grid0.coords t) (lenW c (grid0.coords t) (tbl m 0)) = 1#1
      · rw [PhiS_castSucc m hO c t, PhiS_zero m hO c _ _ hz, PhiT0_eq, PhiA0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFS c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 (fun h => (cond3_iff _ _).mp h h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m hO c t, PhiS_zero m hO c _ _ hz, PhiT0_eq, PhiA0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFC c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 ((cond3_iff _ _).mpr h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases h2 : k0_cond2 (grid0.coords t) (lenW c (grid0.coords t) (tbl m 0)) = 1#1
      · rw [PhiS_castSucc m hO c t, PhiS_pos m hO c _ _ hz, PhiT0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFS c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 (fun h => (cond3_iff _ _).mp h h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m hO c t, PhiS_pos m hO c _ _ hz, PhiT0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFC c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 ((cond3_iff _ _).mpr h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · have hz : t.val ≠ 0 := fun h => h0 (by rw [h])
    rw [keysOf_next m hO c t h0]
    by_cases h2 : k0_cond2 (grid0.coords t) (lenW c (grid0.coords t) (tbl m 0)) = 1#1
    · rw [PhiS_castSucc m hO c t, PhiS_pos m hO c _ _ hz, PhiT0_eq]
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runNS c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (keysOf m hO c (t.val - 1) (Nat.lt_of_le_of_lt (Nat.sub_le _ _) t.isLt)) (fun h => h0 ((hcond0_0 t).mp h)) h2 (fun h => (cond3_iff _ _).mp h h2) Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, HS0, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m hO c t, PhiS_pos m hO c _ _ hz, PhiT0_eq]
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runNC c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (keysOf m hO c (t.val - 1) (Nat.lt_of_le_of_lt (Nat.sub_le _ _) t.isLt)) (fun h => h0 ((hcond0_0 t).mp h)) h2 ((cond3_iff _ _).mpr h2) Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, HS0, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives the scratch and the register back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4⟩, Hg⟩, -⟩
  isplitl [HS0 HS1 HS2 HS3 HS4]
  · isplitl [HS0]
    · iexists _; iexact HS0
    isplitl [HS1]; · iexact HS1
    isplitl [HS2]; · iexact HS2
    isplitl [HS3]; · iexact HS3
    iexact HS4
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 480 := N_0; omega)

/-! ## The run -/

set_option backward.isDefEq.respectTransparency.types false in
/-- Every weakly fair execution of the program terminates, with every array as the proof data says and every counter at
    zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.KernelIdeal.Hand

end
-- ==== Proof.KIOkay.lean ====
/- Which query block a point stages: the tile's own, or, past the last tile that holds a query, that last tile's. It lies
   inside the array whatever the length word. -/
module

public import proofs.«01_k».proof.Proof.KIKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The query tile a point stages, from its tile number and the length word of its batch. -/
def tileW (a w : BitVec 32) : BitVec 32 :=
  let v3 : BitVec 32 := Scalar.subi (Scalar.addi w 128#32) 1#32
  let v4 : BitVec 32 := Scalar.divsi v3 128#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt (128#32 : BitVec 32) 0#32)) (Scalar.extui (Scalar.cmpi .slt (128#32 : BitVec 32) 0#32))
  let v18 : BitVec 1 := Scalar.andi (Scalar.cmpi .ne v9 v14) (Scalar.cmpi .ne (Scalar.remsi v3 128#32) 0#32)
  let v20 : BitVec 32 := Scalar.select v18 (Scalar.subi v4 1#32) v4
  Scalar.minsi a (Scalar.maxsi (Scalar.subi v20 1#32) 0#32)

/-- The least of a nonnegative word and a maximum with zero is at most the word. -/
theorem min_max_le (a x : BitVec 32) (ha : a.toNat < 2 ^ 31) : (Scalar.minsi a (Scalar.maxsi x 0#32)).toNat ≤ a.toNat := by
  have e1 : Scalar.maxsi x 0#32 = if (0#32).slt x then x else 0#32 := rfl
  have e2 : ∀ y : BitVec 32, Scalar.minsi a y = if a.slt y then a else y := fun _ => rfl
  have hA : a.toInt = (a.toNat : ℤ) := by rw [BitVec.toInt_eq_toNat_of_lt]; omega
  rw [e1, e2]
  by_cases h0 : (0#32).slt x = true
  · rw [if_pos h0]
    by_cases h : a.slt x = true
    · rw [if_pos h]
    · rw [if_neg h]
      simp only [BitVec.slt_iff_toInt_lt, BitVec.toInt_zero] at h h0
      have hx : x.toInt = (x.toNat : ℤ) := by
        have := BitVec.toInt_eq_toNat_cond x
        split at this <;> omega
      omega
  · rw [if_neg h0]
    split
    · exact Nat.le_refl _
    · exact Nat.zero_le _

/-- The tile staged is at most the tile computed. -/
theorem tileW_le (a w : BitVec 32) (ha : a.toNat < 2 ^ 31) : (tileW a w).toNat ≤ a.toNat := min_max_le a _ ha

/-- A tile that holds a query is the one staged. -/
theorem tileW_eq (j : ℕ) (hj : j < 20) (w : BitVec 32) (hw : w.toNat ≤ 2 ^ 31 - 128) (h : 128 * j < w.toNat) : tileW (BitVec.ofNat 32 j) w = BitVec.ofNat 32 j := by
  have e3 : Scalar.subi (Scalar.addi w 128#32) 1#32 = BitVec.ofNat 32 (w.toNat + 127) := by
    show w + 128#32 - 1#32 = _
    apply BitVec.eq_of_toNat_eq
    simp [BitVec.toNat_sub, BitVec.toNat_add]; omega
  have hv : (BitVec.ofNat 32 (w.toNat + 127)).toNat = w.toNat + 127 := by simp; omega
  have hvi : (BitVec.ofNat 32 (w.toNat + 127)).toInt = (w.toNat + 127 : ℕ) := by
    rw [BitVec.toInt_eq_toNat_of_lt (by rw [hv]; omega), hv]
  have hms : (BitVec.ofNat 32 (w.toNat + 127)).msb = false := by
    rw [BitVec.msb_eq_false_iff_two_mul_lt, hv]; omega
  have e4 : Scalar.divsi (BitVec.ofNat 32 (w.toNat + 127)) 128#32 = BitVec.ofNat 32 ((w.toNat + 127) / 128) := by
    show (if IntOp.SDivCorner _ _ then _ else BitVec.sdiv _ _) = _
    rw [if_neg (by unfold IntOp.SDivCorner; simp [BitVec.neg_one_eq_allOnes]), BitVec.sdiv_eq, hms]
    show BitVec.udiv _ _ = _
    apply BitVec.eq_of_toNat_eq
    rw [BitVec.udiv_eq, BitVec.toNat_udiv, hv]; simp; omega
  have e9 : Scalar.cmpi .sgt (BitVec.ofNat 32 (w.toNat + 127)) 0#32 = 1#1 := by
    show BitVec.ofBool ((0#32).slt _) = _
    rw [(BitVec.slt_iff_toInt_lt).mpr (by rw [hvi]; simp; omega)]; rfl
  have e9' : Scalar.cmpi .slt (BitVec.ofNat 32 (w.toNat + 127)) 0#32 = 0#1 := by
    show BitVec.ofBool (BitVec.slt _ (0#32)) = _
    rw [show BitVec.slt (BitVec.ofNat 32 (w.toNat + 127)) (0#32) = false from by
      rw [Bool.eq_false_iff]; intro hh; rw [BitVec.slt_iff_toInt_lt, hvi] at hh; simp at hh; omega]; rfl
  unfold tileW
  simp only [e3, e4, e9, e9']
  rw [show (Scalar.andi (Scalar.cmpi .ne (Scalar.subi (Scalar.extui (1#1 : BitVec 1)) (Scalar.extui (0#1 : BitVec 1))) (Scalar.subi (Scalar.extui (Scalar.cmpi .sgt (128#32 : BitVec 32) 0#32)) (Scalar.extui (Scalar.cmpi .slt (128#32 : BitVec 32) 0#32)))) (Scalar.cmpi .ne (Scalar.remsi (BitVec.ofNat 32 (w.toNat + 127)) 128#32) 0#32) : BitVec 1) = 0#1 from by
    show (0#1 : BitVec 1) &&& _ = 0#1
    simp]
  show Scalar.minsi _ (Scalar.maxsi (BitVec.ofNat 32 ((w.toNat + 127) / 128) - 1#32) 0#32) = _
  have e21 : BitVec.ofNat 32 ((w.toNat + 127) / 128) - 1#32 = BitVec.ofNat 32 ((w.toNat - 1) / 128) := by
    apply BitVec.eq_of_toNat_eq
    simp [BitVec.toNat_sub]; omega
  have hk : (BitVec.ofNat 32 ((w.toNat - 1) / 128)).toInt = (((w.toNat - 1) / 128 : ℕ) : ℤ) := by
    rw [BitVec.toInt_eq_toNat_of_lt (by simp; omega)]; simp; omega
  have hjI : (BitVec.ofNat 32 j).toInt = (j : ℤ) := by
    rw [BitVec.toInt_eq_toNat_of_lt (by simp; omega)]; simp; omega
  rw [e21]
  show (if BitVec.slt _ (if BitVec.slt (0#32) _ then _ else _) then _ else _) = _
  simp only [BitVec.slt_iff_toInt_lt, hk, hjI, BitVec.toInt_zero]
  by_cases h0 : (0 : ℤ) < (((w.toNat - 1) / 128 : ℕ) : ℤ)
  · rw [if_pos h0]
    by_cases h1 : (j : ℤ) < (BitVec.ofNat 32 ((w.toNat - 1) / 128)).toInt
    · rw [if_pos h1]
    · rw [if_neg h1]; rw [hk] at h1
      have e : (w.toNat - 1) / 128 = j := by omega
      rw [e]
      show (if BitVec.slt (0#32) (BitVec.ofNat 32 j) = true then BitVec.ofNat 32 j else 0#32) = _
      rw [if_pos ((BitVec.slt_iff_toInt_lt).mpr (by rw [hjI, BitVec.toInt_zero]; omega))]
  · rw [if_neg h0]
    have : j = 0 := by omega
    have e : (w.toNat - 1) / 128 = 0 := by omega
    rw [e, this]; rfl

/-- The three query windows' index maps at the table's word. -/
theorem map0_eq (pf : pre0.Contents (Elt F)) (i : grid0.Coords) : cc0_transform_0 k0_off1_inb numel1_S1 pf i = ![(i 0).val, (tileW (BitVec.ofNat 32 (i 1).val) (pf.at 0 (Rect.unit (s := S24) (k0_off1 i) S1.size (k0_off1_inb i)) numel1_S1)).toNat, 0, 0] := by
  have h0 : (BitVec.ofNat 32 (i 0).val).toNat = (i 0).val := by
    have : (i 0).val < 24 := (i 0).isLt
    simp; omega
  show ![(BitVec.ofNat 32 (i 0).val).toNat, _, _, _] = _
  rw [h0]; rfl
theorem map1_eq (pf : pre0.Contents (Elt F)) (i : grid0.Coords) : cc0_transform_1 k0_off1_inb numel1_S1 pf i = ![(i 0).val, (tileW (BitVec.ofNat 32 (i 1).val) (pf.at 0 (Rect.unit (s := S24) (k0_off1 i) S1.size (k0_off1_inb i)) numel1_S1)).toNat, 0, 0] := map0_eq pf i
theorem map2_eq (pf : pre0.Contents (Elt F)) (i : grid0.Coords) : cc0_transform_2 k0_off1_inb numel1_S1 pf i = ![(i 0).val, (tileW (BitVec.ofNat 32 (i 1).val) (pf.at 0 (Rect.unit (s := S24) (k0_off1 i) S1.size (k0_off1_inb i)) numel1_S1)).toNat, 0, 0] := map0_eq pf i

/-- The tile staged is one of the twenty. -/
theorem tile_lt (i : grid0.Coords) (w : BitVec 32) : (tileW (BitVec.ofNat 32 (i 1).val) w).toNat < 20 := by
  have h1 : (i 1).val < 20 := (i 1).isLt
  have h := tileW_le (BitVec.ofNat 32 (i 1).val) w (by simp; omega)
  have : (BitVec.ofNat 32 (i 1).val).toNat = (i 1).val := by simp; omega
  omega

/-- A rectangle that takes every row of its slabs takes whole words. -/
theorem wholeRows {s : Shape} (p : ℕ) (r : Rect s) (h2 : 2 ≤ s.rank) (h1 : r.stride (s.rowAx h2) = 1) (h0 : r.off (s.rowAx h2) = 0) (hs : r.size (s.rowAx h2) = s.size (s.rowAx h2)) : r.WholeWords p :=
  Or.inr ⟨h2, h1, h0, hs⟩

/-- A block of 128 rows of one batch, all heads and all columns, lies inside the array. -/
theorem inb4 (b T n : ℕ) (h0 : b < 24) (h1 : T < 20) : ∀ a, ((![b, T, 0, 0] : Fin 4 → ℕ) a + 1) * (![1, 128, 8, n] : Fin 4 → ℕ) a ≤ (![24, 2560, 8, n] : Fin 4 → ℕ) a
  | ⟨0, _⟩ => by simp; omega
  | ⟨1, _⟩ => by simp; omega
  | ⟨2, _⟩ => by simp
  | ⟨3, _⟩ => by simp

/-- So each query window's block is inside its array and made of whole words. -/
theorem fits0 (b T : ℕ) (h0 : b < 24) (h1 : T < 20) : ∃ h : (∀ a, ((![b, T, 0, 0] : Fin 4 → ℕ) a + 1) * S1x128x8x512.size a ≤ S24x2560x8x512.size a), EltTy.bits .fp8e4m3 = 32 ∨ (Rect.block (s := S24x2560x8x512) S1x128x8x512.size ![b, T, 0, 0] h).WholeWords (EltTy.packing .fp8e4m3) :=
  ⟨fun a => inb4 b T 512 h0 h1 a, Or.inr (wholeRows _ _ (by decide) rfl (Nat.zero_mul _) rfl)⟩
theorem fits1 (b T : ℕ) (h0 : b < 24) (h1 : T < 20) : ∃ h : (∀ a, ((![b, T, 0, 0] : Fin 4 → ℕ) a + 1) * S1x128x8x4.size a ≤ S24x2560x8x4.size a), EltTy.bits .f32 = 32 ∨ (Rect.block (s := S24x2560x8x4) S1x128x8x4.size ![b, T, 0, 0] h).WholeWords (EltTy.packing .f32) :=
  ⟨fun a => inb4 b T 4 h0 h1 a, Or.inl rfl⟩
theorem fits2 (b T : ℕ) (h0 : b < 24) (h1 : T < 20) : ∃ h : (∀ a, ((![b, T, 0, 0] : Fin 4 → ℕ) a + 1) * S1x128x8x64.size a ≤ S24x2560x8x64.size a), EltTy.bits .bf16 = 32 ∨ (Rect.block (s := S24x2560x8x64) S1x128x8x64.size ![b, T, 0, 0] h).WholeWords (EltTy.packing .bf16) :=
  ⟨fun a => inb4 b T 64 h0 h1 a, Or.inr (wholeRows _ _ (by decide) rfl (Nat.zero_mul _) rfl)⟩

/-- Every query block lies inside its array, whatever the lengths. -/
theorem ok_all : Ok m := by
  refine ⟨fun i => ?_, fun i => ?_, fun i => ?_⟩
  · rw [map0_eq]; exact fits0 _ _ (i 0).isLt (tile_lt i _)
  · rw [map1_eq]; exact fits1 _ _ (i 0).isLt (tile_lt i _)
  · rw [map2_eq]; exact fits2 _ _ (i 0).isLt (tile_lt i _)

end Cert.KernelIdeal.Hand

end
-- ==== Proof.KIQuiet.lean ====
/- The program runs from any memory, leaves its arguments unchanged, and ends with every counter at zero. -/
module

public import proofs.«01_k».proof.Proof.KIFrame
public import proofs.«01_k».proof.Proof.KIOkay

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every weakly fair execution terminates with the seven argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 0).trans (((dats m (ok_all m) 0 c).arrAt_in 0 rfl _).trans ((A_eq m (ok_all m) c 0).trans (V_main_arg0 m c))),
      ((h.1 c).1 1).trans (((dats m (ok_all m) 0 c).arrAt_in 1 rfl _).trans ((A_eq m (ok_all m) c 1).trans (V_main_arg1 m c))),
      ((h.1 c).1 2).trans (((dats m (ok_all m) 0 c).arrAt_in 2 rfl _).trans ((A_eq m (ok_all m) c 2).trans (V_main_arg2 m c))),
      ((h.1 c).1 3).trans (((dats m (ok_all m) 0 c).arrAt_in 3 rfl _).trans ((A_eq m (ok_all m) c 3).trans (V_main_arg3 m c))),
      ((h.1 c).1 4).trans (((dats m (ok_all m) 0 c).arrAt_in 4 rfl _).trans ((A_eq m (ok_all m) c 4).trans (V_main_arg4 m c))),
      ((h.1 c).1 5).trans (((dats m (ok_all m) 0 c).arrAt_in 5 rfl _).trans ((A_eq m (ok_all m) c 5).trans (V_main_arg5 m c))),
      ((h.1 c).2 main_arg6 (by decide : main_arg6 ∈ Pipeline.restRefs sig spec0)).trans (V_main_arg6 m c)⟩, h.2⟩) (run_main m ρ (ok_all m))

end Cert.KernelIdeal.Hand

end
-- ==== Proof.KBKit.lean ====
/- The launch kit of the attention kernel: the region's arrays and prefetched table as the launch finds them, the
   windows' blocks, where the windows are idle (nowhere), the staging and scratch memrefs, the region invariant's pieces. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-! ## The body's branch conditions -/

/-- The body's first condition: the point is the first of its sequence's. -/
abbrev cond0_0 (i : grid0.Coords) : Prop := (Scalar.cmpi .ne (Scalar.extui (Scalar.cmpi .eq (BitVec.ofNat 32 (i 1).val) 0#32)) 0#32) = 1#1
/-- It holds at the points ≡ 0 (mod 20). -/
theorem hcond0_0 : ∀ t : Fin grid0.N, cond0_0 (grid0.coords t) ↔ t.val % 20 = 0 :=
  (fun t => by
    have ht : t.val < 480 := Nat.lt_of_lt_of_eq t.isLt N_0
    have e0 : (grid0.coords t 0).val = t.val / 20 % 24 := Pipeline.Grid.coords_val t 0 (by decide) rfl
    have e1 : (grid0.coords t 1).val = t.val / 1 % 20 := Pipeline.Grid.coords_val t 1 (by decide) rfl
    simp only [cond0_0, e0, e1]
    word_cmp
   : ∀ t : Fin grid0.N, cond0_0 (grid0.coords t) ↔ t.val % 20 = 0)

/-- The two later conditions, "the tile starts at or past the length" and "the tile starts before it", are
    complementary, whatever the word compared with. -/
theorem cond3_iff (i : grid0.Coords) (w : BitVec 32) : k0_cond3 i w = 1#1 ↔ ¬ k0_cond2 i w = 1#1 := by
  have h1 : ∀ b : Bool, (Scalar.cmpi .ne (Scalar.extui (BitVec.ofBool b) : BitVec 32) 0#32 = 1#1) ↔ b = true := by decide
  have h2 : k0_cond3 i w = Scalar.cmpi .ne (Scalar.extui (BitVec.ofBool ((Scalar.muli (BitVec.ofNat 32 (i 1).val) 128#32).slt w)) : BitVec 32) 0#32 := rfl
  have h3 : k0_cond2 i w = Scalar.cmpi .ne (Scalar.extui (BitVec.ofBool (w.sle (Scalar.muli (BitVec.ofNat 32 (i 1).val) 128#32))) : BitVec 32) 0#32 := rfl
  rw [h2, h3, h1, h1]
  simp only [BitVec.slt_iff_toInt_lt, BitVec.sle_iff_toInt_le, not_le]

/-! ## Where the windows are idle -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)

/-- The outputs are never idle: at every point one of the two conditions holds. -/
theorem liveAt0_6 (hO : Ok m) (t : Fin (cfgM m hO).N) : (cfgM m hO).idle 6 (grid0.coords t) = false := by
  show (!(k0_cond2 (grid0.coords t) ((tbl m).atD 0 (k0_off1 (grid0.coords t))) == 1#1) && !(k0_cond3 (grid0.coords t) ((tbl m).atD 0 (k0_off1 (grid0.coords t))) == 1#1)) = false
  have h := cond3_iff (grid0.coords t) ((tbl m).atD 0 (k0_off1 (grid0.coords t)))
  by_cases h2 : k0_cond2 (grid0.coords t) ((tbl m).atD 0 (k0_off1 (grid0.coords t))) = 1#1
  · simp [h2]
  · simp [h.mpr h2]
theorem liveAt0_7 (hO : Ok m) (t : Fin (cfgM m hO).N) : (cfgM m hO).idle 7 (grid0.coords t) = false := liveAt0_6 m hO t

/-! ## The body as the pipeline calls it -/

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_prompt (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-! ## The kernel body on any staging memrefs: a subtype the run finds -/

/-- One staging buffer of output window 6, through which its contents are stated (`View.read_writes_of_cover`: the
    choice does not matter). -/
abbrev VO0_6 : View sig .tc .vmem S1x128x8x512 .bf16 := (Memref.whole cc0_stg6_0 : Memref sig .tc .vmem S1x128x8x512 .bf16).view
/-- One staging buffer of output window 7, through which its contents are stated (`View.read_writes_of_cover`: the
    choice does not matter). -/
abbrev VO0_7 : View sig .tc .vmem S1x128x8 .f32 := (Memref.whole cc0_stg7_0 : Memref sig .tc .vmem S1x128x8 .f32).view
/-- Each window's current staging memref at point `t`, spelled as the pipeline passes it (`bodyAt0`), and its wholeness. -/
abbrev ms0_0 (hO : Ok m) (t : Fin (cfgM m hO).N) : Memref sig .tc .vmem S1x128x8x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128x8x4 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128x8x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2560x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2560x4 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2560x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x8x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x8 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S2560x640 .bf16 := Memref.whole cc0_scratch0
abbrev scM0_1 : Memref sig .tc .vmem S1024x640 .bf16 := Memref.whole cc0_scratch1
abbrev scM0_2 : Memref sig .tc .vmem S1024x128 .f32 := Memref.whole cc0_scratch2
abbrev scM0_3 : Memref sig .tc .vmem S1024x128 .f32 := Memref.whole cc0_scratch3
abbrev scM0_4 : Memref sig .tc .vmem S1024x512 .f32 := Memref.whole cc0_scratch4
/-- The scratch `arg11` the kernel carries between points, as a view: what it holds is stated through it. -/
abbrev VS0_0 : View sig .tc .vmem S2560x640 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KBLoop.lean ====
/- The attention kernel's loop over the key blocks, by values: one trip is one step of the running softmax, and the
   loop leaves the state after all its trips. -/
module

public import proofs.«01_k».proof.Proof.KBKit
public import Idealize.ShloMosaic.Lib.Pipeline.Value

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

/-- What a view reads after a last write of its whole box: the payload of that write. -/
theorem read_writes_whole_cons {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f (⟨Rect.unit off s.size inb, w⟩ :: L)) = w := by
  subst h
  funext y
  have e := View.read_writes_cons_emb v f (Rect.whole s) w L y
  rwa [Rect.emb_whole_apply] at e

/-- The keys of a trip: 256 rows of the key array. -/
abbrev keysAt (i : grid0.Coords) (k : Fin (k0_t1_loop i).trips) (cs : Vec F S2560x640 .bf16) : Vec F S256x640 .bf16 :=
  View.ld cs (Rect.unit (s := S2560x640) (k0_off2 i k) S256x640.size (k0_off2_inb i k))

/-- The running softmax's state: row maxima, row sums, weighted values. -/
abbrev St (F : FTy → Type) := Vec F S1024x128 .f32 × Vec F S1024x128 .f32 × Vec F S1024x512 .f32

/-- One step of the running softmax: the keys `c`, the queries `q`, the state before. -/
def stStep (c : Vec F S256x640 .bf16) (q : Vec F S1024x640 .bf16) (s : St F) : St F :=
  (k0_pay14 c q s.1, k0_pay13 c q s.1 s.2.1, k0_pay36 (k0_pay15 c q s.1) (k0_pay16 c q s.1 s.2.2))

/-- The state before the loop. -/
def st0 : St F := (k0_pay32, k0_pay34 k0_pay33, k0_pay35)

/-- The state before trip `k`, from state `s`. -/
def stAt (i : grid0.Coords) (cs : Vec F S2560x640 .bf16) (q : Vec F S1024x640 .bf16) (s : St F) : ℕ → St F
  | 0 => s
  | k + 1 => if h : k < (k0_t1_loop i).trips then stStep (keysAt i ⟨k, h⟩ cs) q (stAt i cs q s k) else stAt i cs q s k

theorem stAt_succ (i : grid0.Coords) (cs : Vec F S2560x640 .bf16) (q : Vec F S1024x640 .bf16) (s : St F) (k : Fin (k0_t1_loop i).trips) :
    stAt i cs q s (k.val + 1) = stStep (keysAt i k cs) q (stAt i cs q s k.val) := by
  rw [stAt]; exact dif_pos k.isLt

abbrev rect13 : Rect S1024x128 := Rect.unit (s := S1024x128) ![0, 0] S1024x128.size inb_S1024x128_S1024x128_0_0
abbrev rect15 : Rect S1024x512 := Rect.unit (s := S1024x512) ![0, 0] S1024x512.size inb_S1024x512_S1024x512_0_0
abbrev rect12 : Rect S1024x640 := Rect.unit (s := S1024x640) ![0, 0] S1024x640.size inb_S1024x640_S1024x640_0_0

theorem ld12 (X : Vec F S1024x640 .bf16) : View.ld X rect12 = X := View.ld_unit_zero z2 _ X
theorem ld13 (X : Vec F S1024x128 .f32) : View.ld X rect13 = X := View.ld_unit_zero z2 _ X
theorem ld15 (X : Vec F S1024x512 .f32) : View.ld X rect15 = X := View.ld_unit_zero z2 _ X

set_option maxHeartbeats 4000000 in
/-- The pieces one trip writes. -/
theorem tripL_eq (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (k : Fin (k0_t1_loop i).trips) (f13 : BufTy.Contents (Elt F) arg13.view.ty) (f14 : BufTy.Contents (Elt F) arg14.view.ty) (f15 : BufTy.Contents (Elt F) arg15.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 k f13 f14 f15
      = ([⟨rect13, k0_pay14 (keysAt i k (arg11.view.read (Elt F) X11)) (View.ld (arg12.view.read (Elt F) X12) rect12) (View.ld (arg13.view.read (Elt F) f13) rect13)⟩],
         [⟨rect13, k0_pay13 (keysAt i k (arg11.view.read (Elt F) X11)) (View.ld (arg12.view.read (Elt F) X12) rect12) (View.ld (arg13.view.read (Elt F) f13) rect13) (View.ld (arg14.view.read (Elt F) f14) rect13)⟩],
         [⟨rect15, k0_pay36 (k0_pay15 (keysAt i k (arg11.view.read (Elt F) X11)) (View.ld (arg12.view.read (Elt F) X12) rect12) (View.ld (arg13.view.read (Elt F) f13) rect13)) (k0_pay16 (keysAt i k (arg11.view.read (Elt F) X11)) (View.ld (arg12.view.read (Elt F) X12) rect12) (View.ld (arg13.view.read (Elt F) f13) rect13) (View.ld (arg15.view.read (Elt F) f15) rect15))⟩]) := by
  unfold tripL_k0_t1
  unfold trip_k0_t1
  rfl

/-- What the three state buffers read after the first `k` trips: the state before trip `k`. -/
theorem pb_read (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    ∀ k, k ≤ (k0_t1_loop i).trips →
    arg13.view.read (Elt F) (arg13.view.writes (Elt F) G13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 k).1)
        = (stAt i (arg11.view.read (Elt F) X11) (arg12.view.read (Elt F) X12) (arg13.view.read (Elt F) G13, arg14.view.read (Elt F) G14, arg15.view.read (Elt F) G15) k).1
    ∧ arg14.view.read (Elt F) (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 k).2.1)
        = (stAt i (arg11.view.read (Elt F) X11) (arg12.view.read (Elt F) X12) (arg13.view.read (Elt F) G13, arg14.view.read (Elt F) G14, arg15.view.read (Elt F) G15) k).2.1
    ∧ arg15.view.read (Elt F) (arg15.view.writes (Elt F) G15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 k).2.2)
        = (stAt i (arg11.view.read (Elt F) X11) (arg12.view.read (Elt F) X12) (arg13.view.read (Elt F) G13, arg14.view.read (Elt F) G14, arg15.view.read (Elt F) G15) k).2.2 := by
  intro k
  induction k with
  | zero => intro _; exact ⟨rfl, rfl, rfl⟩
  | succ k ih =>
    intro hk
    obtain ⟨h13, h14, h15⟩ := ih (Nat.le_of_succ_le hk)
    have hs := stAt_succ i (arg11.view.read (Elt F) X11) (arg12.view.read (Elt F) X12) (arg13.view.read (Elt F) G13, arg14.view.read (Elt F) G14, arg15.view.read (Elt F) G15) ⟨k, hk⟩
    have hp := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 ⟨k, hk⟩
    rw [tripL_eq] at hp
    simp only [h13, h14, h15] at hp
    rw [ld12, ld13, ld13, ld15] at hp
    rw [hp, hs]
    refine ⟨?_, ?_, ?_⟩
    · exact read_writes_whole_cons (F := F) arg13.view G13 z2 _ _ _
    · exact read_writes_whole_cons (F := F) arg14.view G14 z2 _ _ _
    · exact read_writes_whole_cons (F := F) arg15.view G15 z2 _ _ _

theorem rw13 (v : View sig .tc .vmem S1024x128 .f32) (f : v.ty.Contents (Elt F)) (inb : ∀ a, (![0, 0] : Fin 2 → ℕ) a + S1024x128.size a ≤ S1024x128.size a) (w : Vec F S1024x128 .f32) (L : List (View.Piece (Elt F) S1024x128 .f32)) :
    v.read (Elt F) (v.writes (Elt F) f (⟨Rect.unit (s := S1024x128) ![0, 0] S1024x128.size inb, w⟩ :: L)) = w := read_writes_whole_cons (F := F) v f z2 inb w L
theorem rw15 (v : View sig .tc .vmem S1024x512 .f32) (f : v.ty.Contents (Elt F)) (inb : ∀ a, (![0, 0] : Fin 2 → ℕ) a + S1024x512.size a ≤ S1024x512.size a) (w : Vec F S1024x512 .f32) (L : List (View.Piece (Elt F) S1024x512 .f32)) :
    v.read (Elt F) (v.writes (Elt F) f (⟨Rect.unit (s := S1024x512) ![0, 0] S1024x512.size inb, w⟩ :: L)) = w := read_writes_whole_cons (F := F) v f z2 inb w L

/-- What state buffer 13 reads after the loop. -/
theorem pbr13 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    arg13.view.read (Elt F) (arg13.view.writes (Elt F) G13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 (Scf.trips (k0_t1_loop i).lb (k0_t1_loop i).ub (k0_t1_loop i).st)).1)
        = (stAt i (arg11.view.read (Elt F) X11) (arg12.view.read (Elt F) X12) (arg13.view.read (Elt F) G13, arg14.view.read (Elt F) G14, arg15.view.read (Elt F) G15) (k0_t1_loop i).trips).1 :=
  (pb_read c i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 _ le_rfl).1

/-- What state buffer 14 reads after the loop. -/
theorem pbr14 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    arg14.view.read (Elt F) (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 (Scf.trips (k0_t1_loop i).lb (k0_t1_loop i).ub (k0_t1_loop i).st)).2.1)
        = (stAt i (arg11.view.read (Elt F) X11) (arg12.view.read (Elt F) X12) (arg13.view.read (Elt F) G13, arg14.view.read (Elt F) G14, arg15.view.read (Elt F) G15) (k0_t1_loop i).trips).2.1 :=
  (pb_read c i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 _ le_rfl).2.1

/-- What state buffer 15 reads after the loop. -/
theorem pbr15 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 : BitVec 32) (v75 : FVec F S1024x128 .f32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    arg15.view.read (Elt F) (arg15.view.writes (Elt F) G15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 (Scf.trips (k0_t1_loop i).lb (k0_t1_loop i).ub (k0_t1_loop i).st)).2.2)
        = (stAt i (arg11.view.read (Elt F) X11) (arg12.view.read (Elt F) X12) (arg13.view.read (Elt F) G13, arg14.view.read (Elt F) G14, arg15.view.read (Elt F) G15) (k0_t1_loop i).trips).2.2 :=
  (pb_read c i arg2 harg2 arg3 harg3 arg4 harg4 arg5 harg5 arg6 harg6 arg7 harg7 arg8 harg8 arg9 harg9 arg10 harg10 arg11 harg11 arg12 harg12 arg13 harg13 arg14 harg14 arg15 harg15 arg1 v75 X11 X12 G13 G14 G15 _ le_rfl).2.2

/-- The loop for the remainder writes nothing. -/
theorem pb2_zero (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st) = ([], [], []) := by
  have h : Scf.trips (k0_t2_loop i).lb (k0_t2_loop i).ub (k0_t2_loop i).st = 0 := Nat.le_zero.1 (k0_t2_abs i).2.1
  rw [h]; rfl
theorem pb2_zero1 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st)).1 = [] := by rw [pb2_zero]
theorem pb2_zero2 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st)).2.1 = [] := by rw [pb2_zero]
theorem pb2_zero3 (c : Dev nD) (i : grid0.Coords) (arg2 : Memref sig .tc .smem S24 .i32) (harg2 : arg2.IsWhole) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole) (arg1 v100 c1 c0 v109 c2 : BitVec 32) (X11 : BufTy.Contents (Elt F) arg11.view.ty) (X12 : BufTy.Contents (Elt F) arg12.view.ty) (G13 : BufTy.Contents (Elt F) arg13.view.ty) (G14 : BufTy.Contents (Elt F) arg14.view.ty) (G15 : BufTy.Contents (Elt F) arg15.view.ty) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v100 c1 c0 v109 c2 X11 X12 G13 G14 G15 (Scf.trips (k0_t2_loop i).lb (k0_t2_loop i).ub (k0_t2_loop i).st)).2.2 = [] := by rw [pb2_zero]

end Cert.Kernel.Hand

end
-- ==== Proof.KBOffs.lean ====
/- The closed forms of the offsets and trip counts of a point's loops over the key blocks. -/
module

public import proofs.«01_k».proof.Proof.KBKit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of whole key blocks before a point's tokens, as the word the body computes. -/
abbrev nFull (i : grid0.Coords) : BitVec 32 :=
  let v83 : BitVec 32 := Scalar.muli (BitVec.ofNat 32 (i 1).val) 128#32
  Scalar.select (Scalar.andi (Scalar.cmpi .ne (Scalar.subi (Scalar.extui (Scalar.cmpi .sgt v83 0#32)) (Scalar.extui (Scalar.cmpi .slt v83 0#32))) 1#32) (Scalar.cmpi .ne (Scalar.remsi v83 256#32) 0#32)) (Scalar.subi (Scalar.divsi v83 256#32) 1#32) (Scalar.divsi v83 256#32)

/-- Two token blocks make a key block: the word is half the token block's number. -/
theorem nFull_eq (i : grid0.Coords) : nFull i = BitVec.ofNat 32 ((i 1).val / 2) := by
  have h : ∀ n : Fin 20, (let v83 : BitVec 32 := Scalar.muli (BitVec.ofNat 32 n.val) 128#32
      Scalar.select (Scalar.andi (Scalar.cmpi .ne (Scalar.subi (Scalar.extui (Scalar.cmpi .sgt v83 0#32)) (Scalar.extui (Scalar.cmpi .slt v83 0#32))) (Scalar.subi (Scalar.extui (Scalar.cmpi .sgt 256#32 0#32)) (Scalar.extui (Scalar.cmpi .slt 256#32 0#32)))) (Scalar.cmpi .ne (Scalar.remsi v83 256#32) 0#32)) (Scalar.subi (Scalar.divsi v83 256#32) 1#32) (Scalar.divsi v83 256#32)) = BitVec.ofNat 32 (n.val / 2) := by decide +kernel
  exact h (i 1)

/-- The last key block begins at key `256 · (i / 2)`. -/
theorem k0_off4_eq (i : grid0.Coords) : k0_off4 i = ![256 * ((i 1).val / 2), 0] := by
  have h : ∀ n : Fin 20, (Scalar.indexCast (Scalar.muli (BitVec.ofNat 32 (n.val / 2)) 256#32) : BitVec 32).toNat = 256 * (n.val / 2) := by decide +kernel
  have e : k0_off4 i = ![(Scalar.indexCast (Scalar.muli (nFull i) 256#32) : BitVec 32).toNat, 0] := rfl
  rw [e, nFull_eq, h (i 1)]
instance closedOff_k0_off4 (i : grid0.Coords) : ClosedOff (k0_off4 i) := ⟨![256 * ((i 1).val / 2), 0], k0_off4_eq i⟩

/-- Key block `k` of the loop begins at key `256 · k`. -/
theorem k0_off2_eq (i : grid0.Coords) (k : Fin (k0_t1_loop i).trips) : k0_off2 i k = ![256 * k.val, 0] := by
  have hk : k.val < 9 := Nat.lt_of_lt_of_le k.isLt (k0_t1_abs i).2.1
  have h : ∀ n : Fin 9, (Scalar.indexCast (Scalar.muli (Scalar.addi 0#32 (Scalar.muli (Scf.iv 0#32 1#32 n.val) 1#32)) 256#32) : BitVec 32).toNat = 256 * n.val := by decide +kernel
  have e : k0_off2 i k = ![(Scalar.indexCast (Scalar.muli (Scalar.addi 0#32 (Scalar.muli (Scf.iv 0#32 1#32 k.val) 1#32)) 256#32) : BitVec 32).toNat, 0] := rfl
  rw [e, h ⟨k.val, hk⟩]

/-- The loop runs over the `i / 2` whole key blocks before the point's own, -/
theorem trips1 (i : grid0.Coords) : (k0_t1_loop i).trips = (i 1).val / 2 := by
  have h : ∀ n : Fin 20, Scf.trips 0#32 (Scalar.addi 0#32 (Scalar.muli (Scalar.divsi (Scalar.subi (Scalar.divsi (Scalar.addi (Scalar.subi (BitVec.ofNat 32 (n.val / 2)) 0#32) (Scalar.subi 1#32 1#32)) 1#32) 0#32) 1#32) 1#32)) 1#32 = n.val / 2 := by decide +kernel
  have e : (k0_t1_loop i).trips = Scf.trips 0#32 (Scalar.addi 0#32 (Scalar.muli (Scalar.divsi (Scalar.subi (Scalar.divsi (Scalar.addi (Scalar.subi (nFull i) 0#32) (Scalar.subi 1#32 1#32)) 1#32) 0#32) 1#32) 1#32)) 1#32 := rfl
  rw [e, nFull_eq]; exact h (i 1)

/-- and the loop for the remainder runs no trip. -/
theorem trips2 (i : grid0.Coords) : (k0_t2_loop i).trips = 0 := Nat.le_zero.1 (k0_t2_abs i).2.1

end Cert.Kernel.Hand

end
-- ==== Proof.KBVals.lean ====
/- What one point of the attention kernel leaves, as values: the key array dequantised from a batch's blocks, the query
   block, the softmax state after the point's key blocks, and the two output blocks. -/
module

public import proofs.«01_k».proof.Proof.KBLoop
public import proofs.«01_k».proof.Proof.KBOffs

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The length word of a point's batch. -/
abbrev lenW (c : Dev nD) (i : grid0.Coords) (xt0 : TbBuf0 (F := F) c tbM0_0) : BitVec 32 :=
  tbM0_0.view.readAt (Elt F) (Rect.unit (s := S24) (k0_off1 i) S1.size (k0_off1_inb i)).toLoadRect xt0 (Shape.Idx.first (Nat.lt_of_lt_of_eq Nat.one_pos (Eq.symm numel1_S1)))

/-- The pieces the first point of a batch stores into the key array (last first): the rope keys, then the four groups of
    codes times scales. -/
abbrev csPieces (x3 : Vec F S1x2560x512 .fp8e4m3) (x4 : Vec F S1x2560x4 .f32) (x5 : Vec F S1x2560x64 .bf16) : List (View.Piece (Elt F) S2560x640 .bf16) :=
  [⟨Rect.unit (s := S2560x640) ![0, 512] S2560x128.size inb_S2560x640_S2560x128_0_512, k0_pay2 (View.ld x5 (Rect.unit (s := S1x2560x64) ![0, 0, 0] S1x2560x64.size inb_S1x2560x64_S1x2560x64_0_0_0))⟩,
   ⟨Rect.unit (s := S2560x640) ![0, 384] S2560x128.size inb_S2560x640_S2560x128_0_384, k0_pay1 (View.ld x3 (Rect.unit (s := S1x2560x512) ![0, 0, 384] S1x2560x128.size inb_S1x2560x512_S1x2560x128_0_0_384)) (View.ld x4 (Rect.unit (s := S1x2560x4) ![0, 0, 3] S1x2560x1.size inb_S1x2560x4_S1x2560x1_0_0_3))⟩,
   ⟨Rect.unit (s := S2560x640) ![0, 256] S2560x128.size inb_S2560x640_S2560x128_0_256, k0_pay8 (View.ld x3 (Rect.unit (s := S1x2560x512) ![0, 0, 256] S1x2560x128.size inb_S1x2560x512_S1x2560x128_0_0_256)) (View.ld x4 (Rect.unit (s := S1x2560x4) ![0, 0, 2] S1x2560x1.size inb_S1x2560x4_S1x2560x1_0_0_2))⟩,
   ⟨Rect.unit (s := S2560x640) ![0, 128] S2560x128.size inb_S2560x640_S2560x128_0_128, k0_pay7 (View.ld x3 (Rect.unit (s := S1x2560x512) ![0, 0, 128] S1x2560x128.size inb_S1x2560x512_S1x2560x128_0_0_128)) (View.ld x4 (Rect.unit (s := S1x2560x4) ![0, 0, 1] S1x2560x1.size inb_S1x2560x4_S1x2560x1_0_0_1))⟩,
   ⟨Rect.unit (s := S2560x640) ![0, 0] S2560x128.size inb_S2560x640_S2560x128_0_0, k0_pay6 (View.ld x3 (Rect.unit (s := S1x2560x512) ![0, 0, 0] S1x2560x128.size inb_S1x2560x512_S1x2560x128_0_0_0)) (View.ld x4 (Rect.unit (s := S1x2560x4) ![0, 0, 0] S1x2560x1.size inb_S1x2560x4_S1x2560x1_0_0_0))⟩]

/-- The key array of a batch. -/
def csOf (x3 : Vec F S1x2560x512 .fp8e4m3) (x4 : Vec F S1x2560x4 .f32) (x5 : Vec F S1x2560x64 .bf16) : Vec F S2560x640 .bf16 :=
  View.canon (csPieces x3 x4 x5)

/-- The pieces a point stores into the query block (last first). -/
abbrev qsPieces (x0 : Vec F S1x128x8x512 .fp8e4m3) (x1 : Vec F S1x128x8x4 .f32) (x2 : Vec F S1x128x8x64 .bf16) : List (View.Piece (Elt F) S1024x640 .bf16) :=
  [⟨Rect.unit (s := S1024x640) ![0, 512] S1024x128.size inb_S1024x640_S1024x128_0_512, k0_pay31 (View.ld x2 (Rect.unit (s := S1x128x8x64) ![0, 0, 0, 0] S1x128x8x64.size inb_S1x128x8x64_S1x128x8x64_0_0_0_0))⟩,
   ⟨Rect.unit (s := S1024x640) ![0, 384] S1024x128.size inb_S1024x640_S1024x128_0_384, k0_pay30 (View.ld x0 (Rect.unit (s := S1x128x8x512) ![0, 0, 0, 384] S1x128x8x128.size inb_S1x128x8x512_S1x128x8x128_0_0_0_384)) (View.ld x1 (Rect.unit (s := S1x128x8x4) ![0, 0, 0, 3] S1x128x8x1.size inb_S1x128x8x4_S1x128x8x1_0_0_0_3))⟩,
   ⟨Rect.unit (s := S1024x640) ![0, 256] S1024x128.size inb_S1024x640_S1024x128_0_256, k0_pay29 (k0_pay27 (View.ld x0 (Rect.unit (s := S1x128x8x512) ![0, 0, 0, 256] S1x128x8x128.size inb_S1x128x8x512_S1x128x8x128_0_0_0_256))) (k0_pay28 (View.ld x1 (Rect.unit (s := S1x128x8x4) ![0, 0, 0, 2] S1x128x8x1.size inb_S1x128x8x4_S1x128x8x1_0_0_0_2)))⟩,
   ⟨Rect.unit (s := S1024x640) ![0, 128] S1024x128.size inb_S1024x640_S1024x128_0_128, k0_pay26 (View.ld x0 (Rect.unit (s := S1x128x8x512) ![0, 0, 0, 128] S1x128x8x128.size inb_S1x128x8x512_S1x128x8x128_0_0_0_128)) (View.ld x1 (Rect.unit (s := S1x128x8x4) ![0, 0, 0, 1] S1x128x8x1.size inb_S1x128x8x4_S1x128x8x1_0_0_0_1))⟩,
   ⟨Rect.unit (s := S1024x640) ![0, 0] S1024x128.size inb_S1024x640_S1024x128_0_0, k0_pay25 (View.ld x0 (Rect.unit (s := S1x128x8x512) ![0, 0, 0, 0] S1x128x8x128.size inb_S1x128x8x512_S1x128x8x128_0_0_0_0)) (View.ld x1 (Rect.unit (s := S1x128x8x4) ![0, 0, 0, 0] S1x128x8x1.size inb_S1x128x8x4_S1x128x8x1_0_0_0_0))⟩]

/-- The query block of a point. -/
def qsOf (x0 : Vec F S1x128x8x512 .fp8e4m3) (x1 : Vec F S1x128x8x4 .f32) (x2 : Vec F S1x128x8x64 .bf16) : Vec F S1024x640 .bf16 :=
  View.canon (qsPieces x0 x1 x2)

theorem cs_cover (x3 : Vec F S1x2560x512 .fp8e4m3) (x4 : Vec F S1x2560x4 .f32) (x5 : Vec F S1x2560x64 .bf16) :
    ∀ y, ∃ p ∈ csPieces x3 x4 x5, y ∈ p.1.set := View.cover_of_tiledL _ S2560x128.size (by sl_kernel_rfl)

theorem qs_cover (x0 : Vec F S1x128x8x512 .fp8e4m3) (x1 : Vec F S1x128x8x4 .f32) (x2 : Vec F S1x128x8x64 .bf16) :
    ∀ y, ∃ p ∈ qsPieces x0 x1 x2, y ∈ p.1.set := View.cover_of_tiledL _ S1024x128.size (by sl_kernel_rfl)

theorem qs_read (v : View sig .tc .vmem S1024x640 .bf16) (f : v.ty.Contents (Elt F)) (x0 : Vec F S1x128x8x512 .fp8e4m3) (x1 : Vec F S1x128x8x4 .f32) (x2 : Vec F S1x128x8x64 .bf16) :
    v.read (Elt F) (v.writes (Elt F) f (qsPieces x0 x1 x2)) = qsOf x0 x1 x2 := View.read_writes_eq_canon (Val := Elt F) v _ _ (qs_cover x0 x1 x2)

theorem cs_read (v : View sig .tc .vmem S2560x640 .bf16) (f : v.ty.Contents (Elt F)) (x3 : Vec F S1x2560x512 .fp8e4m3) (x4 : Vec F S1x2560x4 .f32) (x5 : Vec F S1x2560x64 .bf16) :
    v.read (Elt F) (v.writes (Elt F) f (csPieces x3 x4 x5)) = csOf x3 x4 x5 := View.read_writes_eq_canon (Val := Elt F) v _ _ (cs_cover x3 x4 x5)

/-- The last key block of a point. -/
abbrev lastKeys (i : grid0.Coords) (cs : Vec F S2560x640 .bf16) : Vec F S256x640 .bf16 :=
  View.ld cs (Rect.unit (s := S2560x640) (k0_off4 i) S256x640.size (k0_off4_inb i))

/-- The masked scores against the last key block. -/
abbrev lastScores (i : grid0.Coords) (cs : Vec F S2560x640 .bf16) (q : Vec F S1024x640 .bf16) : FVec F S1024x256 .f32 :=
  k0_pay38 (BitVec.ofNat 32 (i 1).val) (nFull i) (lastKeys i cs) q

/-- The state after the loop. -/
def stLoop (i : grid0.Coords) (cs : Vec F S2560x640 .bf16) (q : Vec F S1024x640 .bf16) : St F :=
  stAt i cs q st0 (k0_t1_loop i).trips

/-- The state after the last key block. -/
def stEnd (i : grid0.Coords) (cs : Vec F S2560x640 .bf16) (q : Vec F S1024x640 .bf16) : St F :=
  (k0_pay43 (lastScores i cs q) (stLoop i cs q).1,
   k0_pay42 (lastScores i cs q) (stLoop i cs q).1 (stLoop i cs q).2.1,
   k0_pay44 (lastKeys i cs) (lastScores i cs q) (stLoop i cs q).1 (stLoop i cs q).2.2)

/-- Which rows of the block are tokens before the length. -/
abbrev validM (i : grid0.Coords) (w : BitVec 32) : IVec S1024x128 1 :=
  k0_pay47 (F := F) w (Scalar.muli (BitVec.ofNat 32 (i 1).val) 128#32) (iota .tc S1024x128 32 [0] iota_S1024x128_d0_w32) 8#32 k0_pay46

/-- The pieces of the first output block (last first), from the final state. -/
abbrev outPieces (i : grid0.Coords) (w : BitVec 32) (s : St F) : List (View.Piece (Elt F) S1x128x8x512 .bf16) :=
  [⟨Rect.unit (s := S1x128x8x512) ![0, 0, 0, 384] S1x128x8x128.size inb_S1x128x8x512_S1x128x8x128_0_0_0_384, k0_pay52 (k0_pay45 s.2.1) (validM (F := F) i w) (View.ld s.2.2 (Rect.unit (s := S1024x512) ![0, 384] S1024x128.size inb_S1024x512_S1024x128_0_384))⟩,
   ⟨Rect.unit (s := S1x128x8x512) ![0, 0, 0, 256] S1x128x8x128.size inb_S1x128x8x512_S1x128x8x128_0_0_0_256, k0_pay51 (k0_pay45 s.2.1) (validM (F := F) i w) (View.ld s.2.2 (Rect.unit (s := S1024x512) ![0, 256] S1024x128.size inb_S1024x512_S1024x128_0_256))⟩,
   ⟨Rect.unit (s := S1x128x8x512) ![0, 0, 0, 128] S1x128x8x128.size inb_S1x128x8x512_S1x128x8x128_0_0_0_128, k0_pay50 (k0_pay49 w (k0_pay45 s.2.1) (Scalar.muli (BitVec.ofNat 32 (i 1).val) 128#32) (iota .tc S1024x128 32 [0] iota_S1024x128_d0_w32) 8#32 k0_pay46 (View.ld s.2.2 (Rect.unit (s := S1024x512) ![0, 128] S1024x128.size inb_S1024x512_S1024x128_0_128)))⟩,
   ⟨Rect.unit (s := S1x128x8x512) ![0, 0, 0, 0] S1x128x8x128.size inb_S1x128x8x512_S1x128x8x128_0_0_0_0, k0_pay48 w (k0_pay45 s.2.1) (Scalar.muli (BitVec.ofNat 32 (i 1).val) 128#32) (iota .tc S1024x128 32 [0] iota_S1024x128_d0_w32) 8#32 k0_pay46 (View.ld s.2.2 (Rect.unit (s := S1024x512) ![0, 0] S1024x128.size inb_S1024x512_S1024x128_0_0))⟩]

/-- The two output blocks from the final state. -/
def outO (i : grid0.Coords) (w : BitVec 32) (s : St F) : Vec F S1x128x8x512 .bf16 := View.canon (outPieces i w s)
def outL (i : grid0.Coords) (w : BitVec 32) (s : St F) : Vec F S1x128x8 .f32 :=
  k0_pay5 (k0_pay53 s.2.1 (validM (F := F) i w) s.1) k0_pay54 k0_pay55

theorem out_cover (i : grid0.Coords) (w : BitVec 32) (s : St F) :
    ∀ y, ∃ p ∈ outPieces i w s, y ∈ p.1.set := View.cover_of_tiledL _ S1x128x8x128.size (by sl_kernel_rfl)

/-- Four stores of 128 columns each cover the output block. -/
theorem out_read (v : View sig .tc .vmem S1x128x8x512 .bf16) (f : v.ty.Contents (Elt F)) (p3 p2 p1 p0 : Vec F S1x128x8x128 .bf16) :
    v.read (Elt F) (v.writes (Elt F) f [⟨Rect.unit (s := S1x128x8x512) ![0, 0, 0, 384] S1x128x8x128.size inb_S1x128x8x512_S1x128x8x128_0_0_0_384, p3⟩,
      ⟨Rect.unit (s := S1x128x8x512) ![0, 0, 0, 256] S1x128x8x128.size inb_S1x128x8x512_S1x128x8x128_0_0_0_256, p2⟩,
      ⟨Rect.unit (s := S1x128x8x512) ![0, 0, 0, 128] S1x128x8x128.size inb_S1x128x8x512_S1x128x8x128_0_0_0_128, p1⟩,
      ⟨Rect.unit (s := S1x128x8x512) ![0, 0, 0, 0] S1x128x8x128.size inb_S1x128x8x512_S1x128x8x128_0_0_0_0, p0⟩])
    = View.canon [⟨Rect.unit (s := S1x128x8x512) ![0, 0, 0, 384] S1x128x8x128.size inb_S1x128x8x512_S1x128x8x128_0_0_0_384, p3⟩,
      ⟨Rect.unit (s := S1x128x8x512) ![0, 0, 0, 256] S1x128x8x128.size inb_S1x128x8x512_S1x128x8x128_0_0_0_256, p2⟩,
      ⟨Rect.unit (s := S1x128x8x512) ![0, 0, 0, 128] S1x128x8x128.size inb_S1x128x8x512_S1x128x8x128_0_0_0_128, p1⟩,
      ⟨Rect.unit (s := S1x128x8x512) ![0, 0, 0, 0] S1x128x8x128.size inb_S1x128x8x512_S1x128x8x128_0_0_0_0, p0⟩] :=
  View.read_writes_eq_canon (Val := Elt F) v _ _ (View.cover_of_tiledL _ S1x128x8x128.size (by sl_kernel_rfl))

open Classical in
/-- The first output block a point leaves: zeros past the length, else the attention output. -/
def out6 (i : grid0.Coords) (w : BitVec 32) (x0 : Vec F S1x128x8x512 .fp8e4m3) (x1 : Vec F S1x128x8x4 .f32) (x2 : Vec F S1x128x8x64 .bf16) (cs : Vec F S2560x640 .bf16) : Vec F S1x128x8x512 .bf16 :=
  if k0_cond2 i w = 1#1 then k0_pay3 else outO i w (stEnd i cs (qsOf x0 x1 x2))

open Classical in
/-- The second output block a point leaves. -/
def out7 (i : grid0.Coords) (w : BitVec 32) (x0 : Vec F S1x128x8x512 .fp8e4m3) (x1 : Vec F S1x128x8x4 .f32) (x2 : Vec F S1x128x8x64 .bf16) (cs : Vec F S2560x640 .bf16) : Vec F S1x128x8 .f32 :=
  if k0_cond2 i w = 1#1 then k0_pay4 else outL i w (stEnd i cs (qsOf x0 x1 x2))

end Cert.Kernel.Hand

end
-- ==== Proof.KBRunNC.lean ====
/- One point of the attention kernel run through: after the first of its batch, with tokens before the length. -/
module

public import proofs.«01_k».proof.Proof.KBVals

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point after the first of its batch, with tokens before the length. -/
theorem runNC (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0) (xs0 : Vec F S2560x640 .bf16)
    (hc0 : ¬cond0_0 i) (hc1 : ¬k0_cond2 i (lenW c i xt0) = 1#1) (hc2 : k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 xs0) ∗ owns (c : Thread nD τ) arg10 fullShare (out7 i (lenW c i xt0) x0 x1 x2 xs0) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  have htr : (k0_t2_loop i).trips = 0 := trips2 i
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_neg hc1]
    sl_unfold_words
    rw [pb2_zero1, pb2_zero2, pb2_zero3]
    simp (config := {proj := false}) only [View.readCov, View.readAt_eq_ld, List.nil_append, View.writes_append, harg3.read_unread, harg4.read_unread, harg5.read_unread, harg11.read_unread, rw13, rw15]
    rw [pbr13, pbr14, pbr15]
    simp (config := {proj := false}) only [rw13, rw15, ld13, ld15, ld12, harg11.read_unread, qs_read]
    rw [out_read]
    simp (config := {proj := false}) only [outO, outPieces, validM, stEnd, stLoop, st0, lastScores, lastKeys, lenW, View.readAt_eq_ld]
    rfl
  isplitl [H7]
  · iexists _; isplitr; swap; · iexact H7
    ipureintro
    rw [out7, if_neg hc1]
    sl_unfold_words
    rw [pb2_zero1, pb2_zero2]
    simp (config := {proj := false}) only [View.readCov, View.readAt_eq_ld, List.nil_append, View.writes_append, harg3.read_unread, harg4.read_unread, harg5.read_unread, harg11.read_unread, rw13, rw15]
    rw [pbr13, pbr14]
    simp (config := {proj := false}) only [rw13, rw15, ld13, ld15, ld12, harg11.read_unread, qs_read]
    simp (config := {proj := false}) only [outL, validM, stEnd, stLoop, st0, lastScores, lastKeys, lenW, View.readAt_eq_ld]
    exact read_writes_whole_cons (F := F) arg10.view _ z3 _ _ _
  isplitl [HS0]
  · iexists _; isplitr; · ipureintro; exact harg11.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.Kernel.Hand

end
-- ==== Proof.KBRunFC.lean ====
/- One point of the attention kernel run through: that opens a batch, with tokens before the length. -/
module

public import proofs.«01_k».proof.Proof.KBVals

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point that opens a batch, with tokens before the length. -/
theorem runFC (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0)
    (hc0 : cond0_0 i) (hc1 : ¬k0_cond2 i (lenW c i xt0) = 1#1) (hc2 : k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 (csOf x3 x4 x5)) ∗ owns (c : Thread nD τ) arg10 fullShare (out7 i (lenW c i xt0) x0 x1 x2 (csOf x3 x4 x5)) ∗ owns (c : Thread nD τ) arg11 fullShare (csOf x3 x4 x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  have htr : (k0_t2_loop i).trips = 0 := trips2 i
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_neg hc1]
    sl_unfold_words
    rw [pb2_zero1, pb2_zero2, pb2_zero3]
    simp (config := {proj := false}) only [View.readCov, View.readAt_eq_ld, List.nil_append, View.writes_append, harg3.read_unread, harg4.read_unread, harg5.read_unread, harg6.read_unread, harg7.read_unread, harg8.read_unread, cs_read, rw13, rw15]
    rw [pbr13, pbr14, pbr15]
    simp (config := {proj := false}) only [rw13, rw15, ld13, ld15, ld12, harg6.read_unread, harg7.read_unread, harg8.read_unread, cs_read, qs_read]
    rw [cs_read arg11.view _ x3 x4 x5]
    rw [out_read]
    simp (config := {proj := false}) only [outO, outPieces, validM, stEnd, stLoop, st0, lastScores, lastKeys, lenW, View.readAt_eq_ld]
    rfl
  isplitl [H7]
  · iexists _; isplitr; swap; · iexact H7
    ipureintro
    rw [out7, if_neg hc1]
    sl_unfold_words
    rw [pb2_zero1, pb2_zero2]
    simp (config := {proj := false}) only [View.readCov, View.readAt_eq_ld, List.nil_append, View.writes_append, harg3.read_unread, harg4.read_unread, harg5.read_unread, harg6.read_unread, harg7.read_unread, harg8.read_unread, cs_read, rw13, rw15]
    rw [pbr13, pbr14]
    simp (config := {proj := false}) only [rw13, rw15, ld13, ld15, ld12, harg6.read_unread, harg7.read_unread, harg8.read_unread, cs_read, qs_read]
    rw [cs_read arg11.view _ x3 x4 x5]
    simp (config := {proj := false}) only [outL, validM, stEnd, stLoop, st0, lastScores, lastKeys, lenW, View.readAt_eq_ld]
    exact read_writes_whole_cons (F := F) arg10.view _ z3 _ _ _
  isplitl [HS0]
  · iexists _; isplitr; swap; · iexact HS0
    ipureintro
    sl_unfold_words
    simp only [View.readAt_eq_ld, harg6.read_unread, harg7.read_unread, harg8.read_unread]
    exact cs_read arg11.view _ x3 x4 x5
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.Kernel.Hand

end
-- ==== Proof.KBRunNS.lean ====
/- One point of the attention kernel run through: after the first of its batch, past the length. -/
module

public import proofs.«01_k».proof.Proof.KBVals

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point after the first of its batch, past the length. -/
theorem runNS (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0) (xs0 : Vec F S2560x640 .bf16)
    (hc0 : ¬cond0_0 i) (hc1 : k0_cond2 i (lenW c i xt0) = 1#1) (hc2 : ¬k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 xs0) ∗ owns (c : Thread nD τ) arg10 fullShare (out7 i (lenW c i xt0) x0 x1 x2 xs0) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_pos hc1]
    exact read_writes_whole_cons (F := F) arg9.view _ z4 _ _ _
  isplitl [H7]
  · iexists _; isplitr; swap; · iexact H7
    ipureintro
    rw [out7, if_pos hc1]
    exact read_writes_whole_cons (F := F) arg10.view _ z3 _ _ _
  isplitl [HS0]
  · iexists _; isplitr; · ipureintro; exact harg11.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.Kernel.Hand

end
-- ==== Proof.KBRunFS.lean ====
/- One point of the attention kernel run through: that opens a batch, past the length. -/
module

public import proofs.«01_k».proof.Proof.KBVals

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- The body's triple at a point that opens a batch, past the length. -/
theorem runFS (c : Dev nD) (i : grid0.Coords) (arg3 : Memref sig .tc .vmem S1x128x8x512 .fp8e4m3) (harg3 : arg3.IsWhole) (arg4 : Memref sig .tc .vmem S1x128x8x4 .f32) (harg4 : arg4.IsWhole) (arg5 : Memref sig .tc .vmem S1x128x8x64 .bf16) (harg5 : arg5.IsWhole) (arg6 : Memref sig .tc .vmem S1x2560x512 .fp8e4m3) (harg6 : arg6.IsWhole) (arg7 : Memref sig .tc .vmem S1x2560x4 .f32) (harg7 : arg7.IsWhole) (arg8 : Memref sig .tc .vmem S1x2560x64 .bf16) (harg8 : arg8.IsWhole) (arg9 : Memref sig .tc .vmem S1x128x8x512 .bf16) (harg9 : arg9.IsWhole) (arg10 : Memref sig .tc .vmem S1x128x8 .f32) (harg10 : arg10.IsWhole) (arg11 : Memref sig .tc .vmem S2560x640 .bf16) (harg11 : arg11.IsWhole) (arg12 : Memref sig .tc .vmem S1024x640 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x512 .f32) (harg15 : arg15.IsWhole)
    (x0 : Vec F S1x128x8x512 .fp8e4m3) (x1 : Vec F S1x128x8x4 .f32) (x2 : Vec F S1x128x8x64 .bf16) (x3 : Vec F S1x2560x512 .fp8e4m3) (x4 : Vec F S1x2560x4 .f32) (x5 : Vec F S1x2560x64 .bf16) (xt0 : TbBuf0 (F := F) c tbM0_0)
    (hc0 : cond0_0 i) (hc1 : k0_cond2 i (lenW c i xt0) = 1#1) (hc2 : ¬k0_cond3 i (lenW c i xt0) = 1#1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out6 i (lenW c i xt0) x0 x1 x2 (csOf x3 x4 x5)) ∗ owns (c : Thread nD τ) arg10 fullShare (out7 i (lenW c i xt0) x0 x1 x2 (csOf x3 x4 x5)) ∗ owns (c : Thread nD τ) arg11 fullShare (csOf x3 x4 x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_prompt i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_mla_prompt_eq_skeleton]; unfold cc0_mla_prompt_skel
  simp only [k0_part1_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [out6, if_pos hc1]
    exact read_writes_whole_cons (F := F) arg9.view _ z4 _ _ _
  isplitl [H7]
  · iexists _; isplitr; swap; · iexact H7
    ipureintro
    rw [out7, if_pos hc1]
    exact read_writes_whole_cons (F := F) arg10.view _ z3 _ _ _
  isplitl [HS0]
  · iexists _; isplitr; swap; · iexact HS0
    ipureintro
    sl_unfold_words
    simp only [View.readAt_eq_ld, harg6.read_unread, harg7.read_unread, harg8.read_unread]
    exact cs_read arg11.view _ x3 x4 x5
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexact HT0

end Cert.Kernel.Hand

end
-- ==== Proof.KBFrame.lean ====
/- The pipeline's run: what the kernel leaves in every output block at every point, and with it the launch. The key
   array is carried from point to point: the first point of a batch stores it, the others read it. -/
module

public import proofs.«01_k».proof.Proof.KBRunNC
public import proofs.«01_k».proof.Proof.KBRunFC
public import proofs.«01_k».proof.Proof.KBRunNS
public import proofs.«01_k».proof.Proof.KBRunFS

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (m : (ℓ : Loc nD τ sig) → Buf (Elt F) ℓ) (ρ : Dev nD → PrngReg)

/-- The key array after point `n`: made anew at the first point of a batch, kept at the others. -/
def keysOf (hO : Ok m) (c : Dev nD) : (n : ℕ) → n < (cfgM m hO).N → Vec F S2560x640 .bf16
  | 0, h => csOf (iblk m hO c 3 ⟨0, h⟩) (iblk m hO c 4 ⟨0, h⟩) (iblk m hO c 5 ⟨0, h⟩)
  | n + 1, h =>
    if (n + 1) % 20 = 0 then csOf (iblk m hO c 3 ⟨n + 1, h⟩) (iblk m hO c 4 ⟨n + 1, h⟩) (iblk m hO c 5 ⟨n + 1, h⟩)
    else keysOf hO c n (Nat.lt_of_succ_lt h)

/-- At the first point of a batch the key array is that batch's. -/
theorem keysOf_first (hO : Ok m) (c : Dev nD) (t : Fin (cfgM m hO).N) (h0 : t.val % 20 = 0) :
    keysOf m hO c t.val t.isLt = csOf (iblk m hO c 3 t) (iblk m hO c 4 t) (iblk m hO c 5 t) := by
  obtain ⟨n, hn⟩ := t
  cases n with
  | zero => rfl
  | succ n => exact if_pos h0

/-- At any other point it is what the point before left. -/
theorem keysOf_next (hO : Ok m) (c : Dev nD) (t : Fin (cfgM m hO).N) (h0 : ¬ t.val % 20 = 0) :
    keysOf m hO c t.val t.isLt = keysOf m hO c (t.val - 1) (Nat.lt_of_le_of_lt (Nat.sub_le _ _) t.isLt) := by
  obtain ⟨n, hn⟩ := t
  cases n with
  | zero => exact absurd rfl h0
  | succ n => exact if_neg h0

/-- The two blocks point `t` leaves. -/
def left6 (hO : Ok m) (c : Dev nD) (t : Fin (cfgM m hO).N) : Vec F S1x128x8x512 .bf16 :=
  out6 (grid0.coords t) (lenW c (grid0.coords t) (tbl m 0)) (iblk m hO c 0 t) (iblk m hO c 1 t) (iblk m hO c 2 t) (keysOf m hO c t.val t.isLt)
def left7 (hO : Ok m) (c : Dev nD) (t : Fin (cfgM m hO).N) : Vec F S1x128x8 .f32 :=
  out7 (grid0.coords t) (lenW c (grid0.coords t) (tbl m 0)) (iblk m hO c 0 t) (iblk m hO c 1 t) (iblk m hO c 2 t) (keysOf m hO c t.val t.isLt)

/-- The invariant before point `n`: at the first point the scratch at anything, afterwards the key array at what the point
    before left; the other scratch, the generator register at some state, and the table. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (keysOf m hO c n hn) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (keysOf m hO c n hn) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare (keysOf m hO c (n - 1) (by omega)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them; after the body at point `t` each
    input's buffer at its block and each output's at what the point leaves; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => left6 m hO c t
    | ⟨7, _⟩ => left7 m hO c t
  Φ t := PhiS m hO c t.val (Nat.le_of_lt_succ t.isLt)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- The invariant at a point's start, restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = left6 m hO c t := by dsimp only [dats]; try rfl
theorem after0_7 (hO : Ok m) (c : Dev nD) (t : Fin (cfgM m hO).N) : (dats m hO 0 c).after 7 t = left7 m hO c t := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 14400000 in
/-- The body at any point: the inputs' buffers hold their blocks; whether the point is the first of its batch, and whether
    its tile lies past the length, say which run applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  unfold left6 left7
  by_cases h0 : t.val % 20 = 0
  · rw [keysOf_first m hO c t h0]
    by_cases hz : t.val = 0
    · by_cases h2 : k0_cond2 (grid0.coords t) (lenW c (grid0.coords t) (tbl m 0)) = 1#1
      · rw [PhiS_castSucc m hO c t, PhiS_zero m hO c _ _ hz, PhiT0_eq, PhiA0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFS c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 (fun h => (cond3_iff _ _).mp h h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m hO c t, PhiS_zero m hO c _ _ hz, PhiT0_eq, PhiA0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFC c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 ((cond3_iff _ _).mpr h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases h2 : k0_cond2 (grid0.coords t) (lenW c (grid0.coords t) (tbl m 0)) = 1#1
      · rw [PhiS_castSucc m hO c t, PhiS_pos m hO c _ _ hz, PhiT0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFS c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 (fun h => (cond3_iff _ _).mp h h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m hO c t, PhiS_pos m hO c _ _ hz, PhiT0_eq]
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (runFC c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0)  ((hcond0_0 t).mpr h0) h2 ((cond3_iff _ _).mpr h2) Set.univ (fun _ => _))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, HS2, HS3, HS4, HT0⟩
        isplitl [HS0 HS1 HS2 HS3 HS4 Hg HT0]
        · isplitl [HS0 HS1 HS2 HS3 HS4 Hg]
          · isplitl [HS0 HS1 HS2 HS3 HS4]
            · isplitl [HS0]; · iexact HS0
              isplitl [HS1]; · iexact HS1
              isplitl [HS2]; · iexact HS2
              isplitl [HS3]; · iexact HS3
              iexact HS4
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · have hz : t.val ≠ 0 := fun h => h0 (by rw [h])
    rw [keysOf_next m hO c t h0]
    by_cases h2 : k0_cond2 (grid0.coords t) (lenW c (grid0.coords t) (tbl m 0)) = 1#1
    · rw [PhiS_castSucc m hO c t, PhiS_pos m hO c _ _ hz, PhiT0_eq]
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runNS c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (keysOf m hO c (t.val - 1) (Nat.lt_of_le_of_lt (Nat.sub_le _ _) t.isLt)) (fun h => h0 ((hcond0_0 t).mp h)) h2 (fun h => (cond3_iff _ _).mp h h2) Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, HS0, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m hO c t, PhiS_pos m hO c _ _ hz, PhiT0_eq]
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runNC c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (keysOf m hO c (t.val - 1) (Nat.lt_of_le_of_lt (Nat.sub_le _ _) t.isLt)) (fun h => h0 ((hcond0_0 t).mp h)) h2 ((cond3_iff _ _).mpr h2) Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, HS0, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives the scratch and the register back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4⟩, Hg⟩, -⟩
  isplitl [HS0 HS1 HS2 HS3 HS4]
  · isplitl [HS0]
    · iexists _; iexact HS0
    isplitl [HS1]; · iexact HS1
    isplitl [HS2]; · iexact HS2
    isplitl [HS3]; · iexact HS3
    iexact HS4
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 480 := N_0; omega)

/-! ## The run -/

set_option backward.isDefEq.respectTransparency.types false in
/-- Every weakly fair execution of the program terminates, with every array as the proof data says and every counter at
    zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.Kernel.Hand

end
-- ==== Proof.KBOkay.lean ====
/- Which query block a point stages: the tile's own, or, past the last tile that holds a query, that last tile's. It lies
   inside the array whatever the length word. -/
module

public import proofs.«01_k».proof.Proof.KBKit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query tile a point stages, from its tile number and the length word of its batch. -/
def tileW (a w : BitVec 32) : BitVec 32 :=
  let v3 : BitVec 32 := Scalar.subi (Scalar.addi w 128#32) 1#32
  let v4 : BitVec 32 := Scalar.divsi v3 128#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt (128#32 : BitVec 32) 0#32)) (Scalar.extui (Scalar.cmpi .slt (128#32 : BitVec 32) 0#32))
  let v18 : BitVec 1 := Scalar.andi (Scalar.cmpi .ne v9 v14) (Scalar.cmpi .ne (Scalar.remsi v3 128#32) 0#32)
  let v20 : BitVec 32 := Scalar.select v18 (Scalar.subi v4 1#32) v4
  Scalar.minsi a (Scalar.maxsi (Scalar.subi v20 1#32) 0#32)

/-- The least of a nonnegative word and a maximum with zero is at most the word. -/
theorem min_max_le (a x : BitVec 32) (ha : a.toNat < 2 ^ 31) : (Scalar.minsi a (Scalar.maxsi x 0#32)).toNat ≤ a.toNat := by
  have e1 : Scalar.maxsi x 0#32 = if (0#32).slt x then x else 0#32 := rfl
  have e2 : ∀ y : BitVec 32, Scalar.minsi a y = if a.slt y then a else y := fun _ => rfl
  have hA : a.toInt = (a.toNat : ℤ) := by rw [BitVec.toInt_eq_toNat_of_lt]; omega
  rw [e1, e2]
  by_cases h0 : (0#32).slt x = true
  · rw [if_pos h0]
    by_cases h : a.slt x = true
    · rw [if_pos h]
    · rw [if_neg h]
      simp only [BitVec.slt_iff_toInt_lt, BitVec.toInt_zero] at h h0
      have hx : x.toInt = (x.toNat : ℤ) := by
        have := BitVec.toInt_eq_toNat_cond x
        split at this <;> omega
      omega
  · rw [if_neg h0]
    split
    · exact Nat.le_refl _
    · exact Nat.zero_le _

/-- The tile staged is at most the tile computed. -/
theorem tileW_le (a w : BitVec 32) (ha : a.toNat < 2 ^ 31) : (tileW a w).toNat ≤ a.toNat := min_max_le a _ ha

/-- A tile that holds a query is the one staged. -/
theorem tileW_eq (j : ℕ) (hj : j < 20) (w : BitVec 32) (hw : w.toNat ≤ 2 ^ 31 - 128) (h : 128 * j < w.toNat) : tileW (BitVec.ofNat 32 j) w = BitVec.ofNat 32 j := by
  have e3 : Scalar.subi (Scalar.addi w 128#32) 1#32 = BitVec.ofNat 32 (w.toNat + 127) := by
    show w + 128#32 - 1#32 = _
    apply BitVec.eq_of_toNat_eq
    simp [BitVec.toNat_sub, BitVec.toNat_add]; omega
  have hv : (BitVec.ofNat 32 (w.toNat + 127)).toNat = w.toNat + 127 := by simp; omega
  have hvi : (BitVec.ofNat 32 (w.toNat + 127)).toInt = (w.toNat + 127 : ℕ) := by
    rw [BitVec.toInt_eq_toNat_of_lt (by rw [hv]; omega), hv]
  have hms : (BitVec.ofNat 32 (w.toNat + 127)).msb = false := by
    rw [BitVec.msb_eq_false_iff_two_mul_lt, hv]; omega
  have e4 : Scalar.divsi (BitVec.ofNat 32 (w.toNat + 127)) 128#32 = BitVec.ofNat 32 ((w.toNat + 127) / 128) := by
    show (if IntOp.SDivCorner _ _ then _ else BitVec.sdiv _ _) = _
    rw [if_neg (by unfold IntOp.SDivCorner; simp [BitVec.neg_one_eq_allOnes]), BitVec.sdiv_eq, hms]
    show BitVec.udiv _ _ = _
    apply BitVec.eq_of_toNat_eq
    rw [BitVec.udiv_eq, BitVec.toNat_udiv, hv]; simp; omega
  have e9 : Scalar.cmpi .sgt (BitVec.ofNat 32 (w.toNat + 127)) 0#32 = 1#1 := by
    show BitVec.ofBool ((0#32).slt _) = _
    rw [(BitVec.slt_iff_toInt_lt).mpr (by rw [hvi]; simp; omega)]; rfl
  have e9' : Scalar.cmpi .slt (BitVec.ofNat 32 (w.toNat + 127)) 0#32 = 0#1 := by
    show BitVec.ofBool (BitVec.slt _ (0#32)) = _
    rw [show BitVec.slt (BitVec.ofNat 32 (w.toNat + 127)) (0#32) = false from by
      rw [Bool.eq_false_iff]; intro hh; rw [BitVec.slt_iff_toInt_lt, hvi] at hh; simp at hh; omega]; rfl
  unfold tileW
  simp only [e3, e4, e9, e9']
  rw [show (Scalar.andi (Scalar.cmpi .ne (Scalar.subi (Scalar.extui (1#1 : BitVec 1)) (Scalar.extui (0#1 : BitVec 1))) (Scalar.subi (Scalar.extui (Scalar.cmpi .sgt (128#32 : BitVec 32) 0#32)) (Scalar.extui (Scalar.cmpi .slt (128#32 : BitVec 32) 0#32)))) (Scalar.cmpi .ne (Scalar.remsi (BitVec.ofNat 32 (w.toNat + 127)) 128#32) 0#32) : BitVec 1) = 0#1 from by
    show (0#1 : BitVec 1) &&& _ = 0#1
    simp]
  show Scalar.minsi _ (Scalar.maxsi (BitVec.ofNat 32 ((w.toNat + 127) / 128) - 1#32) 0#32) = _
  have e21 : BitVec.ofNat 32 ((w.toNat + 127) / 128) - 1#32 = BitVec.ofNat 32 ((w.toNat - 1) / 128) := by
    apply BitVec.eq_of_toNat_eq
    simp [BitVec.toNat_sub]; omega
  have hk : (BitVec.ofNat 32 ((w.toNat - 1) / 128)).toInt = (((w.toNat - 1) / 128 : ℕ) : ℤ) := by
    rw [BitVec.toInt_eq_toNat_of_lt (by simp; omega)]; simp; omega
  have hjI : (BitVec.ofNat 32 j).toInt = (j : ℤ) := by
    rw [BitVec.toInt_eq_toNat_of_lt (by simp; omega)]; simp; omega
  rw [e21]
  show (if BitVec.slt _ (if BitVec.slt (0#32) _ then _ else _) then _ else _) = _
  simp only [BitVec.slt_iff_toInt_lt, hk, hjI, BitVec.toInt_zero]
  by_cases h0 : (0 : ℤ) < (((w.toNat - 1) / 128 : ℕ) : ℤ)
  · rw [if_pos h0]
    by_cases h1 : (j : ℤ) < (BitVec.ofNat 32 ((w.toNat - 1) / 128)).toInt
    · rw [if_pos h1]
    · rw [if_neg h1]; rw [hk] at h1
      have e : (w.toNat - 1) / 128 = j := by omega
      rw [e]
      show (if BitVec.slt (0#32) (BitVec.ofNat 32 j) = true then BitVec.ofNat 32 j else 0#32) = _
      rw [if_pos ((BitVec.slt_iff_toInt_lt).mpr (by rw [hjI, BitVec.toInt_zero]; omega))]
  · rw [if_neg h0]
    have : j = 0 := by omega
    have e : (w.toNat - 1) / 128 = 0 := by omega
    rw [e, this]; rfl

/-- The three query windows' index maps at the table's word. -/
theorem map0_eq (pf : pre0.Contents (Elt F)) (i : grid0.Coords) : cc0_transform_0 k0_off1_inb numel1_S1 pf i = ![(i 0).val, (tileW (BitVec.ofNat 32 (i 1).val) (pf.at 0 (Rect.unit (s := S24) (k0_off1 i) S1.size (k0_off1_inb i)) numel1_S1)).toNat, 0, 0] := by
  have h0 : (BitVec.ofNat 32 (i 0).val).toNat = (i 0).val := by
    have : (i 0).val < 24 := (i 0).isLt
    simp; omega
  show ![(BitVec.ofNat 32 (i 0).val).toNat, _, _, _] = _
  rw [h0]; rfl
theorem map1_eq (pf : pre0.Contents (Elt F)) (i : grid0.Coords) : cc0_transform_1 k0_off1_inb numel1_S1 pf i = ![(i 0).val, (tileW (BitVec.ofNat 32 (i 1).val) (pf.at 0 (Rect.unit (s := S24) (k0_off1 i) S1.size (k0_off1_inb i)) numel1_S1)).toNat, 0, 0] := map0_eq pf i
theorem map2_eq (pf : pre0.Contents (Elt F)) (i : grid0.Coords) : cc0_transform_2 k0_off1_inb numel1_S1 pf i = ![(i 0).val, (tileW (BitVec.ofNat 32 (i 1).val) (pf.at 0 (Rect.unit (s := S24) (k0_off1 i) S1.size (k0_off1_inb i)) numel1_S1)).toNat, 0, 0] := map0_eq pf i

/-- The tile staged is one of the twenty. -/
theorem tile_lt (i : grid0.Coords) (w : BitVec 32) : (tileW (BitVec.ofNat 32 (i 1).val) w).toNat < 20 := by
  have h1 : (i 1).val < 20 := (i 1).isLt
  have h := tileW_le (BitVec.ofNat 32 (i 1).val) w (by simp; omega)
  have : (BitVec.ofNat 32 (i 1).val).toNat = (i 1).val := by simp; omega
  omega

/-- A rectangle that takes every row of its slabs takes whole words. -/
theorem wholeRows {s : Shape} (p : ℕ) (r : Rect s) (h2 : 2 ≤ s.rank) (h1 : r.stride (s.rowAx h2) = 1) (h0 : r.off (s.rowAx h2) = 0) (hs : r.size (s.rowAx h2) = s.size (s.rowAx h2)) : r.WholeWords p :=
  Or.inr ⟨h2, h1, h0, hs⟩

/-- A block of 128 rows of one batch, all heads and all columns, lies inside the array. -/
theorem inb4 (b T n : ℕ) (h0 : b < 24) (h1 : T < 20) : ∀ a, ((![b, T, 0, 0] : Fin 4 → ℕ) a + 1) * (![1, 128, 8, n] : Fin 4 → ℕ) a ≤ (![24, 2560, 8, n] : Fin 4 → ℕ) a
  | ⟨0, _⟩ => by simp; omega
  | ⟨1, _⟩ => by simp; omega
  | ⟨2, _⟩ => by simp
  | ⟨3, _⟩ => by simp

/-- So each query window's block is inside its array and made of whole words. -/
theorem fits0 (b T : ℕ) (h0 : b < 24) (h1 : T < 20) : ∃ h : (∀ a, ((![b, T, 0, 0] : Fin 4 → ℕ) a + 1) * S1x128x8x512.size a ≤ S24x2560x8x512.size a), EltTy.bits .fp8e4m3 = 32 ∨ (Rect.block (s := S24x2560x8x512) S1x128x8x512.size ![b, T, 0, 0] h).WholeWords (EltTy.packing .fp8e4m3) :=
  ⟨fun a => inb4 b T 512 h0 h1 a, Or.inr (wholeRows _ _ (by decide) rfl (Nat.zero_mul _) rfl)⟩
theorem fits1 (b T : ℕ) (h0 : b < 24) (h1 : T < 20) : ∃ h : (∀ a, ((![b, T, 0, 0] : Fin 4 → ℕ) a + 1) * S1x128x8x4.size a ≤ S24x2560x8x4.size a), EltTy.bits .f32 = 32 ∨ (Rect.block (s := S24x2560x8x4) S1x128x8x4.size ![b, T, 0, 0] h).WholeWords (EltTy.packing .f32) :=
  ⟨fun a => inb4 b T 4 h0 h1 a, Or.inl rfl⟩
theorem fits2 (b T : ℕ) (h0 : b < 24) (h1 : T < 20) : ∃ h : (∀ a, ((![b, T, 0, 0] : Fin 4 → ℕ) a + 1) * S1x128x8x64.size a ≤ S24x2560x8x64.size a), EltTy.bits .bf16 = 32 ∨ (Rect.block (s := S24x2560x8x64) S1x128x8x64.size ![b, T, 0, 0] h).WholeWords (EltTy.packing .bf16) :=
  ⟨fun a => inb4 b T 64 h0 h1 a, Or.inr (wholeRows _ _ (by decide) rfl (Nat.zero_mul _) rfl)⟩

/-- Every query block lies inside its array, whatever the lengths. -/
theorem ok_all : Ok m := by
  refine ⟨fun i => ?_, fun i => ?_, fun i => ?_⟩
  · rw [map0_eq]; exact fits0 _ _ (i 0).isLt (tile_lt i _)
  · rw [map1_eq]; exact fits1 _ _ (i 0).isLt (tile_lt i _)
  · rw [map2_eq]; exact fits2 _ _ (i 0).isLt (tile_lt i _)

end Cert.Kernel.Hand

end
-- ==== Proof.KBQuiet.lean ====
/- The program runs from any memory, leaves its arguments unchanged, and ends with every counter at zero. -/
module

public import proofs.«01_k».proof.Proof.KBFrame
public import proofs.«01_k».proof.Proof.KBOkay

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates with the seven argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 0).trans (((dats m (ok_all m) 0 c).arrAt_in 0 rfl _).trans ((A_eq m (ok_all m) c 0).trans (V_main_arg0 m c))),
      ((h.1 c).1 1).trans (((dats m (ok_all m) 0 c).arrAt_in 1 rfl _).trans ((A_eq m (ok_all m) c 1).trans (V_main_arg1 m c))),
      ((h.1 c).1 2).trans (((dats m (ok_all m) 0 c).arrAt_in 2 rfl _).trans ((A_eq m (ok_all m) c 2).trans (V_main_arg2 m c))),
      ((h.1 c).1 3).trans (((dats m (ok_all m) 0 c).arrAt_in 3 rfl _).trans ((A_eq m (ok_all m) c 3).trans (V_main_arg3 m c))),
      ((h.1 c).1 4).trans (((dats m (ok_all m) 0 c).arrAt_in 4 rfl _).trans ((A_eq m (ok_all m) c 4).trans (V_main_arg4 m c))),
      ((h.1 c).1 5).trans (((dats m (ok_all m) 0 c).arrAt_in 5 rfl _).trans ((A_eq m (ok_all m) c 5).trans (V_main_arg5 m c))),
      ((h.1 c).2 main_arg6 (by decide : main_arg6 ∈ Pipeline.restRefs sig spec0)).trans (V_main_arg6 m c)⟩, h.2⟩) (run_main m ρ (ok_all m))

end Cert.Kernel.Hand

end
-- ==== Proof.Claims.lean ====
/- The claims but for the equality of results: each program runs, leaves its arguments unchanged and ends with every
   counter at zero, and the idealized kernel is the kernel with its four constants named. -/
module

public import proofs.«01_k».proof.Defs
public import proofs.«01_k».proof.Proof.KIQuiet
public import proofs.«01_k».proof.Proof.KBQuiet
public import proofs.«01_k».proof.Proof.Gen.ReferenceIdeal.Frame
public import proofs.«01_k».proof.Proof.Gen.Pre_lengths_fit

@[expose] public section

noncomputable section

namespace Cert.Proof

open Idealize.ShloMosaic

/-- The kernel on machine numbers runs, from any memory. -/
theorem frame_p : Cert.quiescent_Kernel := fun m ρ _ => Cert.Kernel.Hand.frame m ρ
/-- The kernel on extended reals runs, from any memory. -/
theorem frame_pi : Cert.quiescent_KernelIdeal := fun m ρ _ => Cert.KernelIdeal.Hand.frame m ρ
/-- The same under the precondition. -/
theorem frame_pi' : Cert.quiescent_KernelIdeal_pre_lengths_fit := fun m ρ _ => Cert.KernelIdeal.Hand.frame m ρ
/-- The reference on extended reals runs, from any memory. -/
theorem frame_ri : Cert.quiescent_ReferenceIdeal := fun m ρ _ => Cert.ReferenceIdeal.Gen.frame m ρ
/-- The same under the precondition. -/
theorem frame_ri' : Cert.quiescent_ReferenceIdeal_pre_lengths_fit := fun m ρ _ => Cert.ReferenceIdeal.Gen.frame m ρ
/-- The four named constants have the values the table gives them. -/
theorem preserves : Cert.preserves_Kernel_KernelIdeal :=
  ⟨IdealRules.named_const.statement Cert.KernelIdeal.κ "mask" .f32 0xF149F2CA#32 ⊥ rfl,
   IdealRules.named_const.statement Cert.KernelIdeal.κ "scale_log2e" .f32 0x3DD53B95#32 (((Real.sqrt 192)⁻¹ * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩

end Cert.Proof

end
-- ==== Proof.Soft.lean ====
/- The running softmax over the extended reals: what a fold over blocks of keys keeps, in base 2, and how it relates to
   the softmax taken at once in base e. -/
module

public import Idealize.ShloMosaic.PureOps.Ideal

@[expose] public section

noncomputable section

namespace Cert.Soft

open Idealize.ShloMosaic

/-- The exponentials are not negative. -/
theorem exp2_nonneg (x : EReal) : 0 ≤ Ideal.exp2 x := by
  induction x with
  | bot => simp
  | top => simp
  | coe r => rw [Ideal.exp2_coe]; exact_mod_cast Real.rpow_nonneg (by norm_num) r

theorem exp_nonneg (x : EReal) : 0 ≤ Ideal.exp x := by
  induction x with
  | bot => simp
  | top => simp
  | coe r => rw [Ideal.exp_coe]; exact_mod_cast (Real.exp_pos r).le

theorem sub_top (x : EReal) : x - ⊤ = ⊥ := by
  rw [sub_eq_add_neg, EReal.neg_top, EReal.add_bot]

theorem bot_sub (x : EReal) : ⊥ - x = ⊥ := by
  rw [sub_eq_add_neg, EReal.bot_add]

/-- Rescaling a term from one bound to a larger one. -/
theorem exp2_rescale {x M M' : EReal} (h : x ≤ M) (h' : M ≤ M') :
    Ideal.exp2 (x - M) * Ideal.exp2 (M - M') = Ideal.exp2 (x - M') := by
  induction M' with
  | top => simp [sub_top]
  | bot =>
    have hM : M = ⊥ := le_bot_iff.1 h'
    subst hM
    have hx : x = ⊥ := le_bot_iff.1 h
    subst hx
    simp [bot_sub]
  | coe r' =>
    induction M with
    | top => exact absurd h' (by simp)
    | bot =>
      have hx : x = ⊥ := le_bot_iff.1 h
      subst hx
      simp [bot_sub]
    | coe r =>
      induction x with
      | top => exact absurd h (by simp)
      | bot => simp [bot_sub]
      | coe s =>
        rw [← EReal.coe_sub, ← EReal.coe_sub, ← EReal.coe_sub, Ideal.exp2_coe, Ideal.exp2_coe, Ideal.exp2_coe, ← EReal.coe_mul]
        congr 1
        change (2 : ℝ) ^ (s - r) * (2 : ℝ) ^ (r - r') = (2 : ℝ) ^ (s - r')
        rw [← Real.rpow_add (by norm_num)]
        congr 1
        ring

/-- A rescaling factor is finite. -/
theorem exp2_ne_top {M M' : EReal} (h : M ≤ M') : Ideal.exp2 (M - M') ≠ ⊤ := by
  induction M' with
  | top => simp [sub_top]
  | bot =>
    have hM : M = ⊥ := le_bot_iff.1 h
    subst hM
    simp [bot_sub]
  | coe r' =>
    induction M with
    | top => exact absurd h (by simp)
    | bot => simp [bot_sub]
    | coe r => rw [← EReal.coe_sub, Ideal.exp2_coe]; exact EReal.coe_ne_top _

theorem exp_ne_top {M M' : EReal} (h : M ≤ M') : Ideal.exp (M - M') ≠ ⊤ := by
  induction M' with
  | top => simp [sub_top]
  | bot =>
    have hM : M = ⊥ := le_bot_iff.1 h
    subst hM
    simp [bot_sub]
  | coe r' =>
    induction M with
    | top => exact absurd h (by simp)
    | bot => simp [bot_sub]
    | coe r => rw [← EReal.coe_sub, Ideal.exp_coe]; exact EReal.coe_ne_top _

/-- A finite factor that is not negative goes into a sum. -/
theorem sum_mul_of_nonneg {ι : Type} (S : Finset ι) (f : ι → EReal) {a : EReal} (h0 : 0 ≤ a) (h1 : a ≠ ⊤) :
    (∑ k ∈ S, f k) * a = ∑ k ∈ S, f k * a := by
  classical
  induction S using Finset.induction_on with
  | empty => simp
  | insert k S hk ih =>
    rw [Finset.sum_insert hk, Finset.sum_insert hk, mul_comm, EReal.left_distrib_of_nonneg_of_ne_top h0 h1, mul_comm a, mul_comm a, ih]

/-- The largest of the first `n` scores; the sum of the exponentials below it; the weighted sum. -/
def mx (s : ℕ → EReal) (n : ℕ) : EReal := (Finset.range n).sup s
def sm (s : ℕ → EReal) (n : ℕ) : EReal := ∑ k ∈ Finset.range n, Ideal.exp2 (s k - mx s n)
def ac (s c : ℕ → EReal) (n : ℕ) : EReal := ∑ k ∈ Finset.range n, Ideal.exp2 (s k - mx s n) * c k

@[simp] theorem mx_zero (s : ℕ → EReal) : mx s 0 = ⊥ := rfl
@[simp] theorem sm_zero (s : ℕ → EReal) : sm s 0 = 0 := rfl
@[simp] theorem ac_zero (s c : ℕ → EReal) : ac s c 0 = 0 := rfl

theorem le_mx (s : ℕ → EReal) {n k : ℕ} (h : k < n) : s k ≤ mx s n := Finset.le_sup (Finset.mem_range.2 h)

/-- A block of `b` more scores: the new largest. -/
theorem mx_add (s : ℕ → EReal) (n b : ℕ) :
    mx s (n + b) = max (mx s n) ((Finset.univ : Finset (Fin b)).fold max ⊥ fun x => s (n + x.val)) := by
  apply le_antisymm
  · refine Finset.sup_le fun k hk => ?_
    have hk := Finset.mem_range.1 hk
    by_cases h : k < n
    · exact (le_mx s h).trans (le_max_left _ _)
    · refine le_trans ?_ (le_max_right _ _)
      have : s k = (fun x : Fin b => s (n + x.val)) ⟨k - n, by omega⟩ := by
        show s k = s (n + (k - n)); congr 1; omega
      rw [this]
      exact Finset.le_sup (f := fun x : Fin b => s (n + x.val)) (Finset.mem_univ _)
  · refine max_le (Finset.sup_mono (Finset.range_mono (Nat.le_add_right n b))) ?_
    refine Finset.sup_le (f := fun x : Fin b => s (n + x.val)) fun x _ => le_mx s (by have := x.isLt; omega)

theorem mx_le_add (s : ℕ → EReal) (n b : ℕ) : mx s n ≤ mx s (n + b) := by rw [mx_add]; exact le_max_left _ _

/-- The new weighted sum: the old one rescaled, plus the block's. -/
theorem ac_add (s c : ℕ → EReal) (n b : ℕ) :
    ac s c (n + b) = ac s c n * Ideal.exp2 (mx s n - mx s (n + b))
      + ∑ x : Fin b, Ideal.exp2 (s (n + x.val) - mx s (n + b)) * c (n + x.val) := by
  unfold ac
  rw [Finset.sum_range_add, sum_mul_of_nonneg _ _ (exp2_nonneg _) (exp2_ne_top (mx_le_add s n b)), Finset.sum_range (n := b)]
  refine congrArg (· + _) (Finset.sum_congr rfl fun k hk => ?_)
  rw [mul_right_comm, exp2_rescale (le_mx s (Finset.mem_range.1 hk)) (mx_le_add s n b)]

theorem sm_eq_ac (s : ℕ → EReal) (n : ℕ) : sm s n = ac s (fun _ => 1) n := by simp [sm, ac]

/-- The new sum: the old one rescaled, plus the block's. -/
theorem sm_add (s : ℕ → EReal) (n b : ℕ) :
    sm s (n + b) = sm s n * Ideal.exp2 (mx s n - mx s (n + b)) + ∑ x : Fin b, Ideal.exp2 (s (n + x.val) - mx s (n + b)) := by
  simp only [sm_eq_ac, ac_add, mul_one]

/-- Scores at minus infinity past the first `n` change nothing. -/
theorem mx_past (s : ℕ → EReal) {n N : ℕ} (h : n ≤ N) (hb : ∀ k, n ≤ k → k < N → s k = ⊥) : mx s N = mx s n := by
  apply le_antisymm
  · refine Finset.sup_le fun k hk => ?_
    by_cases hk' : k < n
    · exact le_mx s hk'
    · rw [hb k (by omega) (Finset.mem_range.1 hk)]; exact bot_le
  · exact Finset.sup_mono (Finset.range_mono h)

theorem ac_past (s c : ℕ → EReal) {n N : ℕ} (h : n ≤ N) (hb : ∀ k, n ≤ k → k < N → s k = ⊥) : ac s c N = ac s c n := by
  unfold ac
  rw [mx_past s h hb]
  symm
  refine Finset.sum_subset (Finset.range_mono h) fun k hk hk' => ?_
  rw [hb k (by simpa using hk') (Finset.mem_range.1 hk), bot_sub, Ideal.exp2_bot, zero_mul]

theorem sm_past (s : ℕ → EReal) {n N : ℕ} (h : n ≤ N) (hb : ∀ k, n ≤ k → k < N → s k = ⊥) : sm s N = sm s n := by
  simp only [sm_eq_ac, ac_past s _ h hb]

/-! ## Base 2 and base e -/

/-- One over the logarithm of two. -/
abbrev lam : EReal := (((Real.log 2)⁻¹ : ℝ) : EReal)

theorem log2_pos : 0 < Real.log 2 := Real.log_pos (by norm_num)

theorem lam_pos : (0 : EReal) < lam := EReal.coe_pos.2 (inv_pos.2 log2_pos)

/-- The base 2 exponential of a multiple is the exponential. -/
theorem exp2_mul_lam (x : EReal) : Ideal.exp2 (x * lam) = Ideal.exp x := by
  induction x with
  | bot => rw [EReal.bot_mul_of_pos lam_pos]; simp
  | top => rw [EReal.top_mul_of_pos lam_pos]; simp
  | coe r =>
    rw [← EReal.coe_mul, Ideal.exp2_coe, Ideal.exp_coe]
    congr 1
    change (2 : ℝ) ^ (r * (Real.log 2)⁻¹) = Real.exp r
    rw [Real.rpow_def_of_pos (by norm_num), mul_comm r, ← mul_assoc, mul_inv_cancel₀ log2_pos.ne', one_mul]

theorem neg_mul_lam (y : EReal) : -(y * lam) = -y * lam := (EReal.neg_mul y lam).symm

theorem add_mul_lam (x y : EReal) : (x + y) * lam = x * lam + y * lam := by
  rw [mul_comm, EReal.left_distrib_of_nonneg_of_ne_top lam_pos.le (EReal.coe_ne_top _), mul_comm lam, mul_comm lam]

theorem exp2_sub_lam (x y : EReal) : Ideal.exp2 (x * lam - y * lam) = Ideal.exp (x - y) := by
  rw [sub_eq_add_neg, neg_mul_lam, ← add_mul_lam, exp2_mul_lam, ← sub_eq_add_neg]

/-- The largest of the scaled scores is the scaled largest. -/
theorem mx_mul_lam (s : ℕ → EReal) (n : ℕ) : mx (fun k => s k * lam) n = mx s n * lam := by
  have hm : Monotone fun x : EReal => x * lam := fun a b h => mul_le_mul_of_nonneg_right h lam_pos.le
  unfold mx
  induction n with
  | zero => simp [EReal.bot_mul_of_pos lam_pos]
  | succ n ih =>
    rw [Finset.range_add_one, Finset.sup_insert, Finset.sup_insert, ih]
    exact (hm.map_sup (s n) _).symm

/-- The sum of exponentials and the weighted sum, at once, in base e. -/
def smE (s : ℕ → EReal) (n : ℕ) : EReal := ∑ k ∈ Finset.range n, Ideal.exp (s k - mx s n)

theorem sm_mul_lam (s : ℕ → EReal) (n : ℕ) : sm (fun k => s k * lam) n = smE s n := by
  unfold sm smE
  simp only [mx_mul_lam, exp2_sub_lam]

theorem ac_mul_lam (s c : ℕ → EReal) (n : ℕ) :
    ac (fun k => s k * lam) c n = ∑ k ∈ Finset.range n, Ideal.exp (s k - mx s n) * c k := by
  unfold ac
  simp only [mx_mul_lam, exp2_sub_lam]

theorem sum_ne_top {ι : Type} (S : Finset ι) (f : ι → EReal) (h0 : ∀ k ∈ S, 0 ≤ f k) (h1 : ∀ k ∈ S, f k ≠ ⊤) :
    (∑ k ∈ S, f k) ≠ ⊤ := by
  classical
  induction S using Finset.induction_on with
  | empty => simp
  | insert k S hk ih =>
    rw [Finset.sum_insert hk]
    exact EReal.add_ne_top (h1 k (Finset.mem_insert_self k S))
      (ih (fun j hj => h0 j (Finset.mem_insert_of_mem hj)) (fun j hj => h1 j (Finset.mem_insert_of_mem hj)))

theorem smE_nonneg (s : ℕ → EReal) (n : ℕ) : 0 ≤ smE s n := Finset.sum_nonneg fun _ _ => exp_nonneg _

theorem smE_ne_top (s : ℕ → EReal) (n : ℕ) : smE s n ≠ ⊤ :=
  sum_ne_top _ _ (fun _ _ => exp_nonneg _) fun _ hk => exp_ne_top (le_mx s (Finset.mem_range.1 hk))

/-- Normalising after the weighted sum or before it is the same. -/
theorem norm_eq (s c : ℕ → EReal) (n : ℕ) :
    (∑ k ∈ Finset.range n, Ideal.exp (s k - mx s n) * c k) * Ideal.div 1 (smE s n)
      = ∑ k ∈ Finset.range n, Ideal.exp (s k - mx s n) * Ideal.div 1 (smE s n) * c k := by
  by_cases h : smE s n = 0
  · have hz : ∀ k ∈ Finset.range n, Ideal.exp (s k - mx s n) = 0 := by
      have := (Finset.sum_eq_zero_iff_of_nonneg (s := Finset.range n) (f := fun k => Ideal.exp (s k - mx s n)) (fun _ _ => exp_nonneg _)).1 h
      exact this
    rw [Finset.sum_eq_zero fun k hk => by rw [hz k hk, zero_mul],
      Finset.sum_eq_zero fun k hk => by rw [hz k hk, zero_mul, zero_mul], zero_mul]
  · have h0 := smE_nonneg s n
    have ht := smE_ne_top s n
    generalize smE s n = L at *
    induction L with
    | top => exact absurd rfl ht
    | bot => exact absurd h0 (by simp)
    | coe r =>
      have hr : r ≠ 0 := fun e => h (by rw [e]; rfl)
      have hr0 : 0 ≤ r := by exact_mod_cast h0
      rw [Ideal.div_coe hr, one_mul, sum_mul_of_nonneg _ _ (by exact_mod_cast one_div_nonneg.2 hr0) (EReal.coe_ne_top _)]
      exact Finset.sum_congr rfl fun k _ => mul_right_comm _ _ _

/-- The logarithm of the sum of exponentials, from base 2. -/
theorem lse_eq (M L : EReal) : (M * lam + L * lam) * ((Real.log 2 : ℝ) : EReal) = M + L := by
  rw [← add_mul_lam, mul_assoc, ← EReal.coe_mul, inv_mul_cancel₀ log2_pos.ne', EReal.coe_one, mul_one]

end Cert.Soft

end
-- ==== Proof.KIPay.lean ====
/- The attention kernel's pure values at one index, over the extended reals: the dequantised keys and queries, the scores,
   the running softmax's step, the two output blocks. -/
module

public import proofs.«01_k».proof.Proof.KIVals
public import proofs.«01_k».proof.Proof.Soft
public import Idealize.ShloMosaic.Lib.Pointwise

@[expose] public section

set_option maxRecDepth 16384

noncomputable section

namespace Cert.KernelIdeal.Hand

open Cert.KernelIdeal.Gen
open Idealize.ShloMosaic

/-! ## Constants -/

/-- The reciprocal root of the score width, as a real. -/
def kap : ℝ := (Real.sqrt 192)⁻¹

theorem named_mask : (Named.named (F := Ideal) κ "mask" (φ := .f32) 0xF149F2CA#32 : EReal) = ⊥ := rfl
theorem named_scale : (Named.named (F := Ideal) κ "scale_log2e" (φ := .f32) 0x3DD53B95#32 : EReal) = ((kap * (Real.log 2)⁻¹ : ℝ) : EReal) := rfl
theorem named_log2e : (Named.named (F := Ideal) κ "log2e" (φ := .f32) 0x3FB8AA3B#32 : EReal) = (((Real.log 2)⁻¹ : ℝ) : EReal) := rfl
theorem named_ln2 : (Named.named (F := Ideal) κ "ln2" (φ := .f32) 0x3F317218#32 : EReal) = ((Real.log 2 : ℝ) : EReal) := rfl
/-- The pattern of minus infinity is the bottom. -/
theorem ofBits_ninf : (Ideal.ofBits .f32 0xFF800000#32 : EReal) = ⊥ := by simp [Ideal.ofBits, Ideal.ieee]

/-! ## Words -/

/-- A row's token within its tile: the quotient by the eight heads, as the kernel spells it. -/
theorem floor8 (r : Fin 1024) :
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 8#32 0#32)) (Scalar.extui (Scalar.cmpi CmpIPredicate.slt 8#32 0#32))))
        (IntOp.cmpi CmpIPredicate.ne (IntOp.remsi ArithUnit.vector (BitVec.ofNat 32 r.val) 8#32) 0#32))
      (IntOp.subi (IntOp.divsi ArithUnit.vector (BitVec.ofNat 32 r.val) 8#32) 1#32)
      (IntOp.divsi ArithUnit.vector (BitVec.ofNat 32 r.val) 8#32) = BitVec.ofNat 32 (r.val / 8) := by
  revert r
  decide +kernel

theorem addmul_ofNat (a b k : ℕ) : IntOp.addi (Scalar.muli (BitVec.ofNat 32 a) (BitVec.ofNat 32 k)) (BitVec.ofNat 32 b) = BitVec.ofNat 32 (k * a + b) := by
  show BitVec.ofNat 32 a * BitVec.ofNat 32 k + BitVec.ofNat 32 b = _
  rw [← BitVec.ofNat_mul, ← BitVec.ofNat_add, Nat.mul_comm]

/-- Small words compare as their numbers. -/
theorem sle_small {a b : ℕ} (ha : a < 2 ^ 31) (hb : b < 2 ^ 31) : IntOp.cmpi CmpIPredicate.sle (BitVec.ofNat 32 a) (BitVec.ofNat 32 b) = if a ≤ b then 1#1 else 0#1 := by
  have h1 := WordCmp.toInt_ofNat_of_lt (w := 32) ha
  have h2 := WordCmp.toInt_ofNat_of_lt (w := 32) hb
  show BitVec.ofBool ((BitVec.ofNat 32 a).sle (BitVec.ofNat 32 b)) = _
  rw [BitVec.sle_eq_decide, h1, h2]
  by_cases h : a ≤ b
  · simp [h]
  · simp [h]

/-! ## Lists of stores at an index -/

theorem canon_hit {s : Shape} {e : EltTy} (off size : Fin s.rank → ℕ) (inb : ∀ a, off a + size a ≤ s.size a)
    (w : (Rect.unit (s := s) off size inb).shape.Idx → Elt Ideal e) (L : List (View.Piece (Elt Ideal) s e)) (y : s.Idx)
    (x : (Rect.unit (s := s) off size inb).shape.Idx) (h : ∀ a, (y a).val = off a + (x a).val) :
    View.canon (Val := Elt Ideal) (⟨Rect.unit (s := s) off size inb, w⟩ :: L) y = w x := by
  have hy : y = (Rect.unit (s := s) off size inb).emb x := by
    funext a; apply Fin.ext; rw [h a]; exact ((Rect.emb_apply (r := Rect.unit (s := s) off size inb) x a).trans (by simp)).symm
  rw [hy]; exact View.canon_cons_emb _ _ _ _

theorem canon_miss {s : Shape} {e : EltTy} (off size : Fin s.rank → ℕ) (inb : ∀ a, off a + size a ≤ s.size a)
    (w : (Rect.unit (s := s) off size inb).shape.Idx → Elt Ideal e) (L : List (View.Piece (Elt Ideal) s e)) (y : s.Idx)
    (a : Fin s.rank) (h : (y a).val < off a) :
    View.canon (Val := Elt Ideal) (⟨Rect.unit (s := s) off size inb, w⟩ :: L) y = View.canon L y := by
  refine View.canon_cons_of_not_mem _ _ fun hm => ?_
  have hm' : y ∈ (Rect.unit (s := s) off size inb).set := hm
  have := (Rect.mem_set_unit.1 hm' a).1
  omega

/-! ## The key array -/

variable (x3 : Vec Ideal S1x2560x512 .fp8e4m3) (x4 : Vec Ideal S1x2560x4 .f32) (x5 : Vec Ideal S1x2560x64 .bf16)

theorem csOf_g0 (k : Fin 2560) (l : Fin 128) :
    csOf x3 x4 x5 (ix2 k ⟨l.val, by omega⟩) = x3 (ix3 0 k ⟨l.val, by omega⟩) * x4 (ix3 0 k 0) := by
  unfold csOf
  refine (canon_miss _ _ _ _ _ _ 1 (by show l.val < 512; omega)).trans ((canon_miss _ _ _ _ _ _ 1 (by show l.val < 384; omega)).trans ((canon_miss _ _ _ _ _ _ 1 (by show l.val < 256; omega)).trans ((canon_miss _ _ _ _ _ _ 1 (by show l.val < 128; omega)).trans ((canon_hit _ _ _ _ _ _ (ix2 k l) (fun a => by fin_cases a <;> simp)).trans ?_))))
  pointwise [k0_pay6]

theorem csOf_g1 (k : Fin 2560) (l : Fin 128) :
    csOf x3 x4 x5 (ix2 k ⟨128 + l.val, by omega⟩) = x3 (ix3 0 k ⟨128 + l.val, by omega⟩) * x4 (ix3 0 k 1) := by
  unfold csOf
  refine (canon_miss _ _ _ _ _ _ 1 (by show 128 + l.val < 512; omega)).trans ((canon_miss _ _ _ _ _ _ 1 (by show 128 + l.val < 384; omega)).trans ((canon_miss _ _ _ _ _ _ 1 (by show 128 + l.val < 256; omega)).trans ((canon_hit _ _ _ _ _ _ (ix2 k l) (fun a => by fin_cases a <;> simp)).trans ?_)))
  pointwise [k0_pay7]

theorem csOf_g2 (k : Fin 2560) (l : Fin 128) :
    csOf x3 x4 x5 (ix2 k ⟨256 + l.val, by omega⟩) = x3 (ix3 0 k ⟨256 + l.val, by omega⟩) * x4 (ix3 0 k 2) := by
  unfold csOf
  refine (canon_miss _ _ _ _ _ _ 1 (by show 256 + l.val < 512; omega)).trans ((canon_miss _ _ _ _ _ _ 1 (by show 256 + l.val < 384; omega)).trans ((canon_hit _ _ _ _ _ _ (ix2 k l) (fun a => by fin_cases a <;> simp)).trans ?_))
  pointwise [k0_pay8]

theorem csOf_g3 (k : Fin 2560) (l : Fin 128) :
    csOf x3 x4 x5 (ix2 k ⟨384 + l.val, by omega⟩) = x3 (ix3 0 k ⟨384 + l.val, by omega⟩) * x4 (ix3 0 k 3) := by
  unfold csOf
  refine (canon_miss _ _ _ _ _ _ 1 (by show 384 + l.val < 512; omega)).trans ((canon_hit _ _ _ _ _ _ (ix2 k l) (fun a => by fin_cases a <;> simp)).trans ?_)
  pointwise [k0_pay1]

/-- A latent key column: the code times its group's scale. -/
theorem csOf_lat (k : Fin 2560) (d : Fin 512) :
    csOf x3 x4 x5 (ix2 k ⟨d.val, by omega⟩) = x3 (ix3 0 k d) * x4 (ix3 0 k ⟨d.val / 128, by omega⟩) := by
  have hd := d.isLt
  obtain h | h | h | h : d.val / 128 = 0 ∨ d.val / 128 = 1 ∨ d.val / 128 = 2 ∨ d.val / 128 = 3 := by omega
  · have e := csOf_g0 x3 x4 x5 k ⟨d.val - 0, by omega⟩
    rw [show (⟨d.val / 128, by omega⟩ : Fin 4) = 0 from Fin.ext h]
    simp only [Nat.sub_zero, Fin.eta] at e
    exact e
  · have e := csOf_g1 x3 x4 x5 k ⟨d.val - 128, by omega⟩
    rw [show (⟨d.val / 128, by omega⟩ : Fin 4) = 1 from Fin.ext h]
    simp only [show 128 + (d.val - 128) = d.val from by omega, Fin.eta] at e
    exact e
  · have e := csOf_g2 x3 x4 x5 k ⟨d.val - 256, by omega⟩
    rw [show (⟨d.val / 128, by omega⟩ : Fin 4) = 2 from Fin.ext h]
    simp only [show 256 + (d.val - 256) = d.val from by omega, Fin.eta] at e
    exact e
  · have e := csOf_g3 x3 x4 x5 k ⟨d.val - 384, by omega⟩
    rw [show (⟨d.val / 128, by omega⟩ : Fin 4) = 3 from Fin.ext h]
    simp only [show 384 + (d.val - 384) = d.val from by omega, Fin.eta] at e
    exact e

/-- The rope key columns, and zeros past them. -/
theorem csOf_rope (k : Fin 2560) (l : Fin 128) :
    csOf x3 x4 x5 (ix2 k ⟨512 + l.val, by omega⟩) = if h : l.val < 64 then x5 (ix3 0 k ⟨l.val, h⟩) else 0 := by
  unfold csOf
  refine ((canon_hit _ _ _ _ _ _ (ix2 k l) (fun a => by fin_cases a <;> simp)).trans ?_)
  pointwise [k0_pay2]

/-! ## The query block -/

variable (x0 : Vec Ideal S1x128x8x512 .fp8e4m3) (x1 : Vec Ideal S1x128x8x4 .f32) (x2 : Vec Ideal S1x128x8x64 .bf16)

theorem qsOf_g0 (r : Fin 1024) (l : Fin 128) :
    qsOf x0 x1 x2 (ix2 r ⟨l.val, by omega⟩) = x0 (ix4 0 ⟨r.val / 8, by omega⟩ ⟨r.val % 8, by omega⟩ ⟨l.val, by omega⟩) * x1 (ix4 0 ⟨r.val / 8, by omega⟩ ⟨r.val % 8, by omega⟩ 0) := by
  unfold qsOf
  refine (canon_miss _ _ _ _ _ _ 1 (by show l.val < 512; omega)).trans ((canon_miss _ _ _ _ _ _ 1 (by show l.val < 384; omega)).trans ((canon_miss _ _ _ _ _ _ 1 (by show l.val < 256; omega)).trans ((canon_miss _ _ _ _ _ _ 1 (by show l.val < 128; omega)).trans ((canon_hit _ _ _ _ _ _ (ix2 r l) (fun a => by fin_cases a <;> simp)).trans ?_))))
  pointwise [k0_pay25]

theorem qsOf_g1 (r : Fin 1024) (l : Fin 128) :
    qsOf x0 x1 x2 (ix2 r ⟨128 + l.val, by omega⟩) = x0 (ix4 0 ⟨r.val / 8, by omega⟩ ⟨r.val % 8, by omega⟩ ⟨128 + l.val, by omega⟩) * x1 (ix4 0 ⟨r.val / 8, by omega⟩ ⟨r.val % 8, by omega⟩ 1) := by
  unfold qsOf
  refine (canon_miss _ _ _ _ _ _ 1 (by show 128 + l.val < 512; omega)).trans ((canon_miss _ _ _ _ _ _ 1 (by show 128 + l.val < 384; omega)).trans ((canon_miss _ _ _ _ _ _ 1 (by show 128 + l.val < 256; omega)).trans ((canon_hit _ _ _ _ _ _ (ix2 r l) (fun a => by fin_cases a <;> simp)).trans ?_)))
  pointwise [k0_pay26]

theorem qsOf_g2 (r : Fin 1024) (l : Fin 128) :
    qsOf x0 x1 x2 (ix2 r ⟨256 + l.val, by omega⟩) = x0 (ix4 0 ⟨r.val / 8, by omega⟩ ⟨r.val % 8, by omega⟩ ⟨256 + l.val, by omega⟩) * x1 (ix4 0 ⟨r.val / 8, by omega⟩ ⟨r.val % 8, by omega⟩ 2) := by
  unfold qsOf
  refine (canon_miss _ _ _ _ _ _ 1 (by show 256 + l.val < 512; omega)).trans ((canon_miss _ _ _ _ _ _ 1 (by show 256 + l.val < 384; omega)).trans ((canon_hit _ _ _ _ _ _ (ix2 r l) (fun a => by fin_cases a <;> simp)).trans ?_))
  pointwise [k0_pay27, k0_pay28, k0_pay29]

theorem qsOf_g3 (r : Fin 1024) (l : Fin 128) :
    qsOf x0 x1 x2 (ix2 r ⟨384 + l.val, by omega⟩) = x0 (ix4 0 ⟨r.val / 8, by omega⟩ ⟨r.val % 8, by omega⟩ ⟨384 + l.val, by omega⟩) * x1 (ix4 0 ⟨r.val / 8, by omega⟩ ⟨r.val % 8, by omega⟩ 3) := by
  unfold qsOf
  refine (canon_miss _ _ _ _ _ _ 1 (by show 384 + l.val < 512; omega)).trans ((canon_hit _ _ _ _ _ _ (ix2 r l) (fun a => by fin_cases a <;> simp)).trans ?_)
  pointwise [k0_pay30]

/-- A latent query column: the code times its group's scale. -/
theorem qsOf_lat (r : Fin 1024) (d : Fin 512) :
    qsOf x0 x1 x2 (ix2 r ⟨d.val, by omega⟩) = x0 (ix4 0 ⟨r.val / 8, by omega⟩ ⟨r.val % 8, by omega⟩ d) * x1 (ix4 0 ⟨r.val / 8, by omega⟩ ⟨r.val % 8, by omega⟩ ⟨d.val / 128, by omega⟩) := by
  have hd := d.isLt
  obtain h | h | h | h : d.val / 128 = 0 ∨ d.val / 128 = 1 ∨ d.val / 128 = 2 ∨ d.val / 128 = 3 := by omega
  · have e := qsOf_g0 x0 x1 x2 r ⟨d.val - 0, by omega⟩
    rw [show (⟨d.val / 128, by omega⟩ : Fin 4) = 0 from Fin.ext h]
    simp only [Nat.sub_zero, Fin.eta] at e
    exact e
  · have e := qsOf_g1 x0 x1 x2 r ⟨d.val - 128, by omega⟩
    rw [show (⟨d.val / 128, by omega⟩ : Fin 4) = 1 from Fin.ext h]
    simp only [show 128 + (d.val - 128) = d.val from by omega, Fin.eta] at e
    exact e
  · have e := qsOf_g2 x0 x1 x2 r ⟨d.val - 256, by omega⟩
    rw [show (⟨d.val / 128, by omega⟩ : Fin 4) = 2 from Fin.ext h]
    simp only [show 256 + (d.val - 256) = d.val from by omega, Fin.eta] at e
    exact e
  · have e := qsOf_g3 x0 x1 x2 r ⟨d.val - 384, by omega⟩
    rw [show (⟨d.val / 128, by omega⟩ : Fin 4) = 3 from Fin.ext h]
    simp only [show 384 + (d.val - 384) = d.val from by omega, Fin.eta] at e
    exact e

/-- The rope query columns, and zeros past them. -/
theorem qsOf_rope (r : Fin 1024) (l : Fin 128) :
    qsOf x0 x1 x2 (ix2 r ⟨512 + l.val, by omega⟩) = if h : l.val < 64 then x2 (ix4 0 ⟨r.val / 8, by omega⟩ ⟨r.val % 8, by omega⟩ ⟨l.val, h⟩) else 0 := by
  unfold qsOf
  refine ((canon_hit _ _ _ _ _ _ (ix2 r l) (fun a => by fin_cases a <;> simp)).trans ?_)
  pointwise [k0_pay31]

/-- A score: the latent products and the rope products; the padding adds nothing. -/
theorem dot_split (q k : Fin 640 → EReal) (a b : Fin 512 → EReal) (c d : Fin 64 → EReal)
    (hq : ∀ i : Fin 512, q ⟨i.val, by omega⟩ = a i) (hk : ∀ i : Fin 512, k ⟨i.val, by omega⟩ = b i)
    (hq' : ∀ l : Fin 128, q ⟨512 + l.val, by omega⟩ = if h : l.val < 64 then c ⟨l.val, h⟩ else 0)
    (hk' : ∀ l : Fin 128, k ⟨512 + l.val, by omega⟩ = if h : l.val < 64 then d ⟨l.val, h⟩ else 0) :
    ∑ x, q x * k x = (∑ i, a i * b i) + ∑ i, c i * d i := by
  rw [show (∑ x, q x * k x) = (∑ i : Fin 512, q (Fin.castAdd 128 i) * k (Fin.castAdd 128 i)) + ∑ l : Fin 128, q (Fin.natAdd 512 l) * k (Fin.natAdd 512 l)
    from Fin.sum_univ_add (a := 512) (b := 128) (fun x => q x * k x)]
  rw [show (∑ l : Fin 128, q (Fin.natAdd 512 l) * k (Fin.natAdd 512 l)) = (∑ l : Fin 64, q (Fin.natAdd 512 (Fin.castAdd 64 l)) * k (Fin.natAdd 512 (Fin.castAdd 64 l)))
      + ∑ l : Fin 64, q (Fin.natAdd 512 (Fin.natAdd 64 l)) * k (Fin.natAdd 512 (Fin.natAdd 64 l))
    from Fin.sum_univ_add (a := 64) (b := 64) (fun l => q (Fin.natAdd 512 l) * k (Fin.natAdd 512 l))]
  have e1 : ∀ i : Fin 512, q (Fin.castAdd 128 i) * k (Fin.castAdd 128 i) = a i * b i := fun i => by
    rw [← hq i, ← hk i]; rfl
  have e2 : ∀ l : Fin 64, q (Fin.natAdd 512 (Fin.castAdd 64 l)) * k (Fin.natAdd 512 (Fin.castAdd 64 l)) = c l * d l := fun l => by
    have h1 := hq' (Fin.castAdd 64 l)
    have h2 := hk' (Fin.castAdd 64 l)
    rw [dif_pos (show (Fin.castAdd 64 l).val < 64 from l.isLt)] at h1 h2
    exact congrArg₂ (· * ·) h1 h2
  have e3 : ∀ l : Fin 64, q (Fin.natAdd 512 (Fin.natAdd 64 l)) * k (Fin.natAdd 512 (Fin.natAdd 64 l)) = 0 := fun l => by
    have h1 := hq' (Fin.natAdd 64 l)
    rw [dif_neg (show ¬ (Fin.natAdd 64 l).val < 64 from by simp)] at h1
    have h1' : q (Fin.natAdd 512 (Fin.natAdd 64 l)) = 0 := h1
    rw [h1', zero_mul]
  simp only [e1, e2, e3, Finset.sum_const_zero, add_zero]

/-! ## The softmax's step -/

theorem pay9_at (c : Vec Ideal S256x640 .bf16) (q : Vec Ideal S1024x640 .bf16) (r : Fin 1024) (l : Fin 256) :
    k0_pay9 c q (ix2 r l) = (∑ x, q (ix2 r x) * c (ix2 l x)) * ((kap * (Real.log 2)⁻¹ : ℝ) : EReal) := by
  pointwise [k0_pay9]
  rfl

theorem pay38_at (j : ℕ) (hj : j < 20) (c : Vec Ideal S256x640 .bf16) (q : Vec Ideal S1024x640 .bf16) (r : Fin 1024) (l : Fin 256) :
    k0_pay38 (BitVec.ofNat 32 j) (BitVec.ofNat 32 (j / 2)) c q (ix2 r l)
      = if 256 * (j / 2) + l.val ≤ 128 * j + r.val / 8 then (∑ x, q (ix2 r x) * c (ix2 l x)) * ((kap * (Real.log 2)⁻¹ : ℝ) : EReal) else ⊥ := by
  pointwise [k0_pay38]
  rw [floor8, addmul_ofNat, addmul_ofNat, sle_small (by omega) (by omega), named_scale, named_mask]
  split <;> rfl

theorem stStep_eq (c : Vec Ideal S256x640 .bf16) (q : Vec Ideal S1024x640 .bf16) (s : St Ideal) :
    stStep c q s = (k0_pay43 (k0_pay9 c q) s.1, k0_pay42 (k0_pay9 c q) s.1 s.2.1, k0_pay44 c (k0_pay9 c q) s.1 s.2.2) := rfl

theorem pay39_at (s : FVec Ideal S1024x256 .f32) (m : Vec Ideal S1024x128 .f32) (r : Fin 1024) (l : Fin 128) :
    k0_pay39 s m (ix2 r l) = max (m (ix2 r l)) ((Finset.univ : Finset (Fin 256)).fold max ⊥ fun x => s (ix2 r x)) := by
  pointwise [k0_pay39]
  rw [ofBits_ninf]

theorem pay40_at (s : FVec Ideal S1024x256 .f32) (m : Vec Ideal S1024x128 .f32) (r : Fin 1024) (l : Fin 128) :
    k0_pay40 s m (ix2 r l) = Ideal.exp2 (m (ix2 r l) - k0_pay39 s m (ix2 r l)) := by
  pointwise [k0_pay40]
  rfl

theorem pay41_at (s : FVec Ideal S1024x256 .f32) (m : Vec Ideal S1024x128 .f32) (r : Fin 1024) (x : Fin 256) (M : EReal)
    (hM : ∀ l : Fin 128, k0_pay39 s m (ix2 r l) = M) :
    k0_pay41 s m (ix2 r x) = Ideal.exp2 (s (ix2 r x) - M) := by
  pointwise [k0_pay41]
  simp only [hM, dite_eq_ite, ite_self]
  rfl

theorem pay42_at (s : FVec Ideal S1024x256 .f32) (m a : Vec Ideal S1024x128 .f32) (r : Fin 1024) (l : Fin 128) :
    k0_pay42 s m a (ix2 r l) = a (ix2 r l) * k0_pay40 s m (ix2 r l) + ∑ x, k0_pay41 s m (ix2 r x) := by
  pointwise [k0_pay42]

theorem pay43_at (s : FVec Ideal S1024x256 .f32) (m : Vec Ideal S1024x128 .f32) (r : Fin 1024) (l : Fin 128) :
    k0_pay43 s m (ix2 r l) = k0_pay39 s m (ix2 r l) := by
  pointwise [k0_pay43]

theorem pay44_at (c : Vec Ideal S256x640 .bf16) (s : FVec Ideal S1024x256 .f32) (m : Vec Ideal S1024x128 .f32) (a : Vec Ideal S1024x512 .f32) (r : Fin 1024) (d : Fin 512) (A : EReal)
    (hA : ∀ l : Fin 128, k0_pay40 s m (ix2 r l) = A) :
    k0_pay44 c s m a (ix2 r d) = a (ix2 r d) * A + ∑ x, k0_pay41 s m (ix2 r x) * c (ix2 x ⟨d.val, by omega⟩) := by
  pointwise [k0_pay44]
  simp only [hA, dite_eq_ite, ite_self]

/-- A state that holds, for every row `r`, the running softmax of the scores `sc r` and the values `cv` over `n` keys. -/
def Inv (sc : Fin 1024 → ℕ → EReal) (cv : Fin 512 → ℕ → EReal) (n : ℕ) (s : St Ideal) : Prop :=
  (∀ (r : Fin 1024) (l : Fin 128), s.1 (ix2 r l) = Cert.Soft.mx (sc r) n)
  ∧ (∀ (r : Fin 1024) (l : Fin 128), s.2.1 (ix2 r l) = Cert.Soft.sm (sc r) n)
  ∧ (∀ (r : Fin 1024) (d : Fin 512), s.2.2 (ix2 r d) = Cert.Soft.ac (sc r) (cv d) n)

/-- One step takes 256 more keys in. -/
theorem inv_step (sc : Fin 1024 → ℕ → EReal) (cv : Fin 512 → ℕ → EReal) (n : ℕ) (st : St Ideal)
    (c : Vec Ideal S256x640 .bf16) (s : FVec Ideal S1024x256 .f32)
    (hs : ∀ (r : Fin 1024) (x : Fin 256), s (ix2 r x) = sc r (n + x.val))
    (hc : ∀ (x : Fin 256) (d : Fin 512), c (ix2 x ⟨d.val, by omega⟩) = cv d (n + x.val))
    (h : Inv sc cv n st) :
    Inv sc cv (n + 256) (k0_pay43 s st.1, k0_pay42 s st.1 st.2.1, k0_pay44 c s st.1 st.2.2) := by
  obtain ⟨h1, h2, h3⟩ := h
  have hM : ∀ (r : Fin 1024) (l : Fin 128), k0_pay39 s st.1 (ix2 r l) = Cert.Soft.mx (sc r) (n + 256) := by
    intro r l; rw [pay39_at, h1, Cert.Soft.mx_add]; simp only [hs]
  have hA : ∀ (r : Fin 1024) (l : Fin 128), k0_pay40 s st.1 (ix2 r l) = Ideal.exp2 (Cert.Soft.mx (sc r) n - Cert.Soft.mx (sc r) (n + 256)) := by
    intro r l; rw [pay40_at, h1, hM]
  have hP : ∀ (r : Fin 1024) (x : Fin 256), k0_pay41 s st.1 (ix2 r x) = Ideal.exp2 (sc r (n + x.val) - Cert.Soft.mx (sc r) (n + 256)) := by
    intro r x; rw [pay41_at s st.1 r x _ (hM r), hs]
  refine ⟨fun r l => ?_, fun r l => ?_, fun r d => ?_⟩
  · exact (pay43_at _ _ _ _).trans (hM r l)
  · refine (pay42_at _ _ _ _ _).trans ?_
    rw [h2, hA, Cert.Soft.sm_add]; simp only [hP]
  · refine (pay44_at _ _ _ _ _ _ _ (hA r)).trans ?_
    rw [h3, Cert.Soft.ac_add]; simp only [hP, hc]

/-- Before any key. -/
theorem inv_zero (sc : Fin 1024 → ℕ → EReal) (cv : Fin 512 → ℕ → EReal) : Inv sc cv 0 (st0 (F := Ideal)) := by
  refine ⟨fun r l => ?_, fun r l => ?_, fun r d => ?_⟩
  · rw [Cert.Soft.mx_zero]
    show k0_pay32 (F := Ideal) (ix2 r l) = ⊥
    pointwise [k0_pay32]
    rfl
  · rw [Cert.Soft.sm_zero]
    show k0_pay34 (F := Ideal) k0_pay33 (ix2 r l) = 0
    pointwise [k0_pay34, k0_pay33]
  · rw [Cert.Soft.ac_zero]
    show k0_pay35 (F := Ideal) (ix2 r d) = 0
    pointwise [k0_pay35]

/-! ## The output blocks -/

/-- The word that says token `128 i + n` lies before the length. -/
def okTok (i : ℕ) (w : BitVec 32) (n : ℕ) : BitVec 1 := IntOp.cmpi CmpIPredicate.slt (BitVec.ofNat 32 (128 * i + n)) w

theorem okTok_row (i : ℕ) (w : BitVec 32) (j : Fin 128) (h : Fin 8) :
    IntOp.cmpi CmpIPredicate.slt
        (IntOp.addi (Scalar.muli (BitVec.ofNat 32 i) 128#32)
          (Scalar.select
            (IntOp.andi
              (IntOp.cmpi CmpIPredicate.ne
                (IntOp.subi (BitVec.setWidth 32 (IntOp.cmpi CmpIPredicate.sgt (BitVec.ofNat 32 (j.val * 8 + h.val)) 0#32))
                  (BitVec.setWidth 32 (IntOp.cmpi CmpIPredicate.slt (BitVec.ofNat 32 (j.val * 8 + h.val)) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 (j.val * 8 + h.val)) 8#32) 0#32))
            (IntOp.subi (IntOp.divsi ArithUnit.vector (BitVec.ofNat 32 (j.val * 8 + h.val)) 8#32) 1#32)
            (IntOp.divsi ArithUnit.vector (BitVec.ofNat 32 (j.val * 8 + h.val)) 8#32)))
        w = okTok i w j.val := by
  have hf := floor8 ⟨j.val * 8 + h.val, by omega⟩
  rw [hf, addmul_ofNat]
  unfold okTok
  congr 3
  show (j.val * 8 + h.val) / 8 = j.val
  omega

theorem outO_g0 (i : grid0.Coords) (w : BitVec 32) (s : St Ideal) (j : Fin 128) (h : Fin 8) (l : Fin 128) :
    outO i w s (ix4 0 j h ⟨l.val, by omega⟩)
      = if okTok (i 1).val w j.val = 1#1 then s.2.2 (ix2 ⟨j.val * 8 + h.val, by omega⟩ ⟨l.val, by omega⟩) * Ideal.div 1 (s.2.1 (ix2 ⟨j.val * 8 + h.val, by omega⟩ l)) else 0 := by
  unfold outO
  refine (canon_miss _ _ _ _ _ _ 3 (by show l.val < 384; omega)).trans ((canon_miss _ _ _ _ _ _ 3 (by show l.val < 256; omega)).trans ((canon_miss _ _ _ _ _ _ 3 (by show l.val < 128; omega)).trans ((canon_hit _ _ _ _ _ _ (ix4 0 j h l) (fun a => by fin_cases a <;> simp)).trans ?_)))
  pointwise [k0_pay48, validM, k0_pay47, k0_pay45, k0_pay46]
  rw [okTok_row]
  rfl

theorem outO_g1 (i : grid0.Coords) (w : BitVec 32) (s : St Ideal) (j : Fin 128) (h : Fin 8) (l : Fin 128) :
    outO i w s (ix4 0 j h ⟨128 + l.val, by omega⟩)
      = if okTok (i 1).val w j.val = 1#1 then s.2.2 (ix2 ⟨j.val * 8 + h.val, by omega⟩ ⟨128 + l.val, by omega⟩) * Ideal.div 1 (s.2.1 (ix2 ⟨j.val * 8 + h.val, by omega⟩ l)) else 0 := by
  unfold outO
  refine (canon_miss _ _ _ _ _ _ 3 (by show 128 + l.val < 384; omega)).trans ((canon_miss _ _ _ _ _ _ 3 (by show 128 + l.val < 256; omega)).trans ((canon_hit _ _ _ _ _ _ (ix4 0 j h l) (fun a => by fin_cases a <;> simp)).trans ?_))
  pointwise [k0_pay49, k0_pay50, validM, k0_pay47, k0_pay45, k0_pay46]
  rw [okTok_row]
  rfl

theorem outO_g2 (i : grid0.Coords) (w : BitVec 32) (s : St Ideal) (j : Fin 128) (h : Fin 8) (l : Fin 128) :
    outO i w s (ix4 0 j h ⟨256 + l.val, by omega⟩)
      = if okTok (i 1).val w j.val = 1#1 then s.2.2 (ix2 ⟨j.val * 8 + h.val, by omega⟩ ⟨256 + l.val, by omega⟩) * Ideal.div 1 (s.2.1 (ix2 ⟨j.val * 8 + h.val, by omega⟩ l)) else 0 := by
  unfold outO
  refine (canon_miss _ _ _ _ _ _ 3 (by show 256 + l.val < 384; omega)).trans ((canon_hit _ _ _ _ _ _ (ix4 0 j h l) (fun a => by fin_cases a <;> simp)).trans ?_)
  pointwise [k0_pay51, validM, k0_pay47, k0_pay45, k0_pay46]
  rw [okTok_row]
  rfl

theorem outO_g3 (i : grid0.Coords) (w : BitVec 32) (s : St Ideal) (j : Fin 128) (h : Fin 8) (l : Fin 128) :
    outO i w s (ix4 0 j h ⟨384 + l.val, by omega⟩)
      = if okTok (i 1).val w j.val = 1#1 then s.2.2 (ix2 ⟨j.val * 8 + h.val, by omega⟩ ⟨384 + l.val, by omega⟩) * Ideal.div 1 (s.2.1 (ix2 ⟨j.val * 8 + h.val, by omega⟩ l)) else 0 := by
  unfold outO
  refine (canon_hit _ _ _ _ _ _ (ix4 0 j h l) (fun a => by fin_cases a <;> simp)).trans ?_
  pointwise [k0_pay52, validM, k0_pay47, k0_pay45, k0_pay46]
  rw [okTok_row]
  rfl

/-- The first output block: for a token before the length the weighted values over the weights' sum, else zero. -/
theorem outO_at (i : grid0.Coords) (w : BitVec 32) (s : St Ideal) (j : Fin 128) (h : Fin 8) (d : Fin 512) (L : EReal)
    (hL : ∀ l : Fin 128, s.2.1 (ix2 ⟨j.val * 8 + h.val, by omega⟩ l) = L) :
    outO i w s (ix4 0 j h d)
      = if okTok (i 1).val w j.val = 1#1 then s.2.2 (ix2 ⟨j.val * 8 + h.val, by omega⟩ d) * Ideal.div 1 L else 0 := by
  have hd := d.isLt
  obtain h4 | h4 | h4 | h4 : d.val / 128 = 0 ∨ d.val / 128 = 1 ∨ d.val / 128 = 2 ∨ d.val / 128 = 3 := by omega
  · have e := outO_g0 i w s j h ⟨d.val - 0, by omega⟩
    simp only [Nat.sub_zero, Fin.eta, hL] at e
    exact e
  · have e := outO_g1 i w s j h ⟨d.val - 128, by omega⟩
    simp only [show 128 + (d.val - 128) = d.val from by omega, Fin.eta, hL] at e
    exact e
  · have e := outO_g2 i w s j h ⟨d.val - 256, by omega⟩
    simp only [show 256 + (d.val - 256) = d.val from by omega, Fin.eta, hL] at e
    exact e
  · have e := outO_g3 i w s j h ⟨d.val - 384, by omega⟩
    simp only [show 384 + (d.val - 384) = d.val from by omega, Fin.eta, hL] at e
    exact e

/-- The second output block: for a token before the length the maximum and the log of the sum, back in natural units. -/
theorem outL_at (i : grid0.Coords) (w : BitVec 32) (s : St Ideal) (j : Fin 128) (h : Fin 8) (M L : EReal)
    (hM : ∀ l : Fin 128, s.1 (ix2 ⟨j.val * 8 + h.val, by omega⟩ l) = M) (hL : ∀ l : Fin 128, s.2.1 (ix2 ⟨j.val * 8 + h.val, by omega⟩ l) = L) :
    outL i w s (ix3 0 j h)
      = if okTok (i 1).val w j.val = 1#1 then (M + Ideal.log L * (((Real.log 2)⁻¹ : ℝ) : EReal)) * ((Real.log 2 : ℝ) : EReal) else 0 := by
  unfold outL
  pointwise [k0_pay5, k0_pay54, k0_pay55, k0_pay53, validM, k0_pay47, k0_pay46]
  rw [Finset.sum_eq_single h]
  · rw [okTok_row, named_log2e, named_ln2, hM, hL]
    rw [show IntOp.cmpi CmpIPredicate.eq (BitVec.ofNat 32 h.val) (BitVec.ofNat 32 h.val) = 1#1 from by
      have : ∀ a : Fin 8, IntOp.cmpi CmpIPredicate.eq (BitVec.ofNat 32 a.val) (BitVec.ofNat 32 a.val) = 1#1 := by decide +kernel
      exact this h]
    rfl
  · intro x _ hx
    rw [show IntOp.cmpi CmpIPredicate.eq (BitVec.ofNat 32 h.val) (BitVec.ofNat 32 x.val) = 0#1 from by
      have : ∀ a b : Fin 8, b ≠ a → IntOp.cmpi CmpIPredicate.eq (BitVec.ofNat 32 a.val) (BitVec.ofNat 32 b.val) = 0#1 := by decide +kernel
      exact this h x hx]
    rfl
  · intro hn; exact absurd (Finset.mem_univ h) hn

end Cert.KernelIdeal.Hand

end
-- ==== Proof.KIAttn.lean ====
/- The running softmax of the attention kernel at one grid point, over the extended reals: after the point's key blocks the
   state holds every row's softmax over the keys up to the end of the last block. -/
module

public import proofs.«01_k».proof.Proof.KIPay

@[expose] public section

set_option maxRecDepth 16384

noncomputable section

namespace Cert.KernelIdeal.Hand

open Cert.KernelIdeal.Gen
open Idealize.ShloMosaic

/-- A load through a unit rectangle, at an index. -/
theorem ld_at {s : Shape} {e : EltTy} (X : s.Idx → Elt Ideal e) (off size : Fin s.rank → ℕ) (inb : ∀ a, off a + size a ≤ s.size a)
    (x : (Rect.unit (s := s) off size inb).shape.Idx) (y : s.Idx) (h : ∀ a, (y a).val = off a + (x a).val) :
    View.ld (Val := Elt Ideal) X (Rect.unit (s := s) off size inb) x = X y := by
  have hy : y = (Rect.unit (s := s) off size inb).emb x := by
    funext a; apply Fin.ext; rw [h a]; exact ((Rect.emb_apply (r := Rect.unit (s := s) off size inb) x a).trans (by simp)).symm
  rw [hy]; rfl

/-- Row `r`'s product with key `k`. -/
def dotRK (q : Vec Ideal S1024x640 .bf16) (cs : Vec Ideal S2560x640 .bf16) (r : Fin 1024) (k : ℕ) : EReal :=
  if hk : k < 2560 then ∑ x, q (ix2 r x) * cs (ix2 ⟨k, hk⟩ x) else 0

/-- Column `d` of key `k`. -/
def colK (cs : Vec Ideal S2560x640 .bf16) (d : Fin 512) (k : ℕ) : EReal :=
  if hk : k < 2560 then cs (ix2 ⟨k, hk⟩ ⟨d.val, by omega⟩) else 0

/-- Row `r`'s masked score against key `k`, in base two. -/
def scRK (j : ℕ) (q : Vec Ideal S1024x640 .bf16) (cs : Vec Ideal S2560x640 .bf16) (r : Fin 1024) (k : ℕ) : EReal :=
  if k ≤ 128 * j + r.val / 8 then dotRK q cs r k * ((kap * (Real.log 2)⁻¹ : ℝ) : EReal) else ⊥

theorem keysAt_at (i : grid0.Coords) (k : Fin (k0_t1_loop i).trips) (cs : Vec Ideal S2560x640 .bf16) (x : Fin 256) (d : Fin 640) (h : 256 * k.val + x.val < 2560) :
    keysAt i k cs (ix2 x d) = cs (ix2 ⟨256 * k.val + x.val, h⟩ d) := by
  refine ld_at cs _ _ _ _ _ fun a => ?_
  refine Eq.trans ?_ (congrArg (· + _) (congrFun (k0_off2_eq i k) a).symm)
  fin_cases a <;> simp

theorem lastKeys_at (i : grid0.Coords) (cs : Vec Ideal S2560x640 .bf16) (x : Fin 256) (d : Fin 640) (h : 256 * ((i 1).val / 2) + x.val < 2560) :
    lastKeys i cs (ix2 x d) = cs (ix2 ⟨256 * ((i 1).val / 2) + x.val, h⟩ d) := by
  refine ld_at cs _ _ _ _ _ fun a => ?_
  refine Eq.trans ?_ (congrArg (· + _) (congrFun (k0_off4_eq i) a).symm)
  fin_cases a <;> simp

theorem i1_lt (i : grid0.Coords) : (i 1).val < 20 := (i 1).isLt

/-- Before trip `k` the state holds the first `256 k` keys. -/
theorem inv_loop (i : grid0.Coords) (cs : Vec Ideal S2560x640 .bf16) (q : Vec Ideal S1024x640 .bf16) :
    ∀ k, k ≤ (k0_t1_loop i).trips → Inv (scRK (i 1).val q cs) (colK cs) (256 * k) (stAt i cs q st0 k)
  | 0, _ => inv_zero _ _
  | k + 1, hk => by
    have hj := i1_lt i
    have ht := trips1 i
    have hkk : k < (i 1).val / 2 := by omega
    rw [stAt_succ i cs q st0 ⟨k, hk⟩, stStep_eq]
    refine inv_step _ _ (256 * k) _ _ _ (fun r x => ?_) (fun x d => ?_) (inv_loop i cs q k (by omega))
    · rw [pay9_at]
      have hx := x.isLt
      unfold scRK dotRK
      rw [if_pos (by omega), dif_pos (show 256 * k + x.val < 2560 by omega)]
      simp only [keysAt_at i ⟨k, hk⟩ cs x _ (show 256 * k + x.val < 2560 by omega)]
    · have hx := x.isLt
      rw [keysAt_at i ⟨k, hk⟩ cs x _ (show 256 * k + x.val < 2560 by omega)]
      unfold colK
      rw [dif_pos (show 256 * k + x.val < 2560 by omega)]

/-- After the point's last key block. -/
theorem inv_end (i : grid0.Coords) (cs : Vec Ideal S2560x640 .bf16) (q : Vec Ideal S1024x640 .bf16) :
    Inv (scRK (i 1).val q cs) (colK cs) (256 * ((i 1).val / 2) + 256) (stEnd i cs q) := by
  have hj := i1_lt i
  have ht := trips1 i
  have h0 : Inv (scRK (i 1).val q cs) (colK cs) (256 * ((i 1).val / 2)) (stLoop i cs q) := by
    have := inv_loop i cs q (k0_t1_loop i).trips le_rfl
    rw [ht] at this
    unfold stLoop
    rw [ht]
    exact this
  refine inv_step _ _ _ _ _ _ (fun r x => ?_) (fun x d => ?_) h0
  · have hx := x.isLt
    unfold lastScores
    rw [nFull_eq, pay38_at _ hj]
    unfold scRK dotRK
    rw [dif_pos (show 256 * ((i 1).val / 2) + x.val < 2560 by omega)]
    simp only [lastKeys_at i cs x _ (show 256 * ((i 1).val / 2) + x.val < 2560 by omega)]
  · have hx := x.isLt
    rw [lastKeys_at i cs x _ (show 256 * ((i 1).val / 2) + x.val < 2560 by omega)]
    unfold colK
    rw [dif_pos (show 256 * ((i 1).val / 2) + x.val < 2560 by omega)]

/-- The last block reaches past every key a row may see, so the state holds the softmax over all the keys. -/
theorem inv_all (i : grid0.Coords) (cs : Vec Ideal S2560x640 .bf16) (q : Vec Ideal S1024x640 .bf16) :
    Inv (scRK (i 1).val q cs) (colK cs) 2560 (stEnd i cs q) := by
  obtain ⟨h1, h2, h3⟩ := inv_end i cs q
  have hj := i1_lt i
  have hb : ∀ (r : Fin 1024) (k : ℕ), 256 * ((i 1).val / 2) + 256 ≤ k → k < 2560 → scRK (i 1).val q cs r k = ⊥ := by
    intro r k hk _
    have hr := r.isLt
    unfold scRK
    exact if_neg (by omega)
  have hle : 256 * ((i 1).val / 2) + 256 ≤ 2560 := by omega
  exact ⟨fun r l => (h1 r l).trans (Cert.Soft.mx_past _ hle (hb r)).symm, fun r l => (h2 r l).trans (Cert.Soft.sm_past _ hle (hb r)).symm,
    fun r d => (h3 r d).trans (Cert.Soft.ac_past _ _ hle (hb r)).symm⟩

/-- Row `r`'s masked score against key `k`, in natural units. -/
def scE (j : ℕ) (q : Vec Ideal S1024x640 .bf16) (cs : Vec Ideal S2560x640 .bf16) (r : Fin 1024) (k : ℕ) : EReal :=
  if k ≤ 128 * j + r.val / 8 then dotRK q cs r k * (kap : EReal) else ⊥

theorem scRK_eq (j : ℕ) (q : Vec Ideal S1024x640 .bf16) (cs : Vec Ideal S2560x640 .bf16) (r : Fin 1024) :
    scRK j q cs r = fun k => scE j q cs r k * Cert.Soft.lam := by
  funext k
  unfold scRK scE
  split
  · rw [EReal.coe_mul, ← mul_assoc]
  · rw [EReal.bot_mul_of_pos Cert.Soft.lam_pos]

/-- The row of token `j` and head `h`. -/
abbrev rowOf (j : Fin 128) (h : Fin 8) : Fin 1024 := ⟨j.val * 8 + h.val, by omega⟩

/-- The softmax of the scores `sc` over `n` keys, weighing the values `c`. -/
def attnV (sc c : ℕ → EReal) (n : ℕ) : EReal :=
  ∑ k ∈ Finset.range n, Ideal.exp (sc k - Cert.Soft.mx sc n) * Ideal.div 1 (Cert.Soft.smE sc n) * c k

/-- The log of the sum of the exponentials of the scores `sc` over `n` keys. -/
def attnL (sc : ℕ → EReal) (n : ℕ) : EReal := Cert.Soft.mx sc n + Ideal.log (Cert.Soft.smE sc n)

/-- The first output block from the final state: the attention of each row. -/
theorem outO_fin (i : grid0.Coords) (w : BitVec 32) (cs : Vec Ideal S2560x640 .bf16) (q : Vec Ideal S1024x640 .bf16) (j : Fin 128) (h : Fin 8) (d : Fin 512) :
    outO i w (stEnd i cs q) (ix4 0 j h d)
      = if okTok (i 1).val w j.val = 1#1 then attnV (scE (i 1).val q cs (rowOf j h)) (colK cs d) 2560 else 0 := by
  obtain ⟨h1, h2, h3⟩ := inv_all i cs q
  rw [outO_at i w _ j h d _ (h2 (rowOf j h)), h3, scRK_eq, Cert.Soft.sm_mul_lam, Cert.Soft.ac_mul_lam, Cert.Soft.norm_eq]
  rfl

/-- The second output block from the final state. -/
theorem outL_fin (i : grid0.Coords) (w : BitVec 32) (cs : Vec Ideal S2560x640 .bf16) (q : Vec Ideal S1024x640 .bf16) (j : Fin 128) (h : Fin 8) :
    outL i w (stEnd i cs q) (ix3 0 j h)
      = if okTok (i 1).val w j.val = 1#1 then attnL (scE (i 1).val q cs (rowOf j h)) 2560 else 0 := by
  obtain ⟨h1, h2, h3⟩ := inv_all i cs q
  rw [outL_at i w _ j h _ _ (h1 (rowOf j h)) (h2 (rowOf j h)), scRK_eq, Cert.Soft.sm_mul_lam, Cert.Soft.mx_mul_lam, Cert.Soft.lse_eq]
  rfl

/-- A row's product with a key, from the point's blocks. -/
theorem dotRK_eq (x0 : Vec Ideal S1x128x8x512 .fp8e4m3) (x1 : Vec Ideal S1x128x8x4 .f32) (x2 : Vec Ideal S1x128x8x64 .bf16)
    (x3 : Vec Ideal S1x2560x512 .fp8e4m3) (x4 : Vec Ideal S1x2560x4 .f32) (x5 : Vec Ideal S1x2560x64 .bf16) (j : Fin 128) (h : Fin 8) (k : ℕ) (hk : k < 2560) :
    dotRK (qsOf x0 x1 x2) (csOf x3 x4 x5) (rowOf j h) k
      = (∑ i : Fin 512, (x0 (ix4 0 j h i) * x1 (ix4 0 j h ⟨i.val / 128, by omega⟩)) * (x3 (ix3 0 ⟨k, hk⟩ i) * x4 (ix3 0 ⟨k, hk⟩ ⟨i.val / 128, by omega⟩)))
        + ∑ e : Fin 64, x2 (ix4 0 j h e) * x5 (ix3 0 ⟨k, hk⟩ e) := by
  unfold dotRK
  rw [dif_pos hk]
  have hj : (⟨(rowOf j h).val / 8, by omega⟩ : Fin 128) = j := Fin.ext (by show (j.val * 8 + h.val) / 8 = j.val; omega)
  have hh : (⟨(rowOf j h).val % 8, by omega⟩ : Fin 8) = h := Fin.ext (by show (j.val * 8 + h.val) % 8 = h.val; omega)
  refine dot_split (fun x => qsOf x0 x1 x2 (ix2 (rowOf j h) x)) (fun x => csOf x3 x4 x5 (ix2 ⟨k, hk⟩ x)) _ _ (fun e => x2 (ix4 0 j h e)) (fun e => x5 (ix3 0 ⟨k, hk⟩ e))
    (fun i => ?_) (fun i => ?_) (fun l => ?_) (fun l => ?_)
  · have e := qsOf_lat x0 x1 x2 (rowOf j h) i
    rw [hj, hh] at e; exact e
  · exact csOf_lat x3 x4 x5 ⟨k, hk⟩ i
  · have e := qsOf_rope x0 x1 x2 (rowOf j h) l
    rw [hj, hh] at e; exact e
  · exact csOf_rope x3 x4 x5 ⟨k, hk⟩ l

end Cert.KernelIdeal.Hand

end
-- ==== Proof.Spec.lean ====
/- What both programs compute, at one index, over the extended reals: causal attention of one query row over the keys of
   its batch, and the log of the sum of the exponentials of its scores. -/
module

public import proofs.«01_k».proof.Proof.KIAttn

@[expose] public section

noncomputable section

namespace Cert.Spec

open Idealize.ShloMosaic
open Cert.KernelIdeal.Hand (kap attnV attnL)

/-- The argument arrays: query codes, query scales, rope queries, key codes, key scales, rope keys, lengths. -/
structure Args where
  a0 : (⟨4, ![24, 2560, 8, 512]⟩ : Shape).Idx → EReal
  a1 : (⟨4, ![24, 2560, 8, 4]⟩ : Shape).Idx → EReal
  a2 : (⟨4, ![24, 2560, 8, 64]⟩ : Shape).Idx → EReal
  a3 : (⟨3, ![24, 2560, 512]⟩ : Shape).Idx → EReal
  a4 : (⟨3, ![24, 2560, 4]⟩ : Shape).Idx → EReal
  a5 : (⟨3, ![24, 2560, 64]⟩ : Shape).Idx → EReal
  a6 : (⟨1, ![24]⟩ : Shape).Idx → BitVec 32

variable (A : Args)

/-- Column `d` of key `k`: the code times its group's scale. -/
def key (b : Fin 24) (k : Fin 2560) (d : Fin 512) : EReal := A.a3 (ix3 b k d) * A.a4 (ix3 b k ⟨d.val / 128, by omega⟩)

/-- Column `d` of the query of token `t` and head `h`. -/
def query (b : Fin 24) (t : Fin 2560) (h : Fin 8) (d : Fin 512) : EReal := A.a0 (ix4 b t h d) * A.a1 (ix4 b t h ⟨d.val / 128, by omega⟩)

/-- The product of a query row with a key: latent columns and rope columns. -/
def dot (b : Fin 24) (t : Fin 2560) (h : Fin 8) (k : Fin 2560) : EReal :=
  (∑ d : Fin 512, query A b t h d * key A b k d) + ∑ e : Fin 64, A.a2 (ix4 b t h e) * A.a5 (ix3 b k e)

/-- The masked score, by the key's number. -/
def score (b : Fin 24) (t : Fin 2560) (h : Fin 8) (k : ℕ) : EReal :=
  if hk : k < 2560 then if k ≤ t.val then dot A b t h ⟨k, hk⟩ * (kap : EReal) else ⊥ else ⊥

/-- Column `d` of a key, by the key's number. -/
def val (b : Fin 24) (d : Fin 512) (k : ℕ) : EReal := if hk : k < 2560 then key A b ⟨k, hk⟩ d else 0

/-- The word that says token `t` lies before the batch's length. -/
def okWord (b : Fin 24) (t : Fin 2560) : BitVec 1 := IntOp.cmpi CmpIPredicate.slt (BitVec.ofNat 32 t.val) (A.a6 (ix1 b))

/-- The attention output. -/
def out (b : Fin 24) (t : Fin 2560) (h : Fin 8) (d : Fin 512) : EReal :=
  if okWord A b t = 1#1 then attnV (score A b t h) (val A b d) 2560 else 0

/-- The log-sum-exp. -/
def lse (b : Fin 24) (t : Fin 2560) (h : Fin 8) : EReal :=
  if okWord A b t = 1#1 then attnL (score A b t h) 2560 else 0

end Cert.Spec

end
-- ==== Proof.KIRead.lean ====
/- The attention kernel's result arrays, over the extended reals: the blocks its windows stage read off the argument arrays,
   the key array of every point, and the two result arrays as one function of the arguments. -/
module

public import proofs.«01_k».proof.Proof.KIQuiet
public import proofs.«01_k».proof.Proof.Spec
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ) (ρ : Dev nD → PrngReg)

theorem b_lt (i : grid0.Coords) : (i 0).val < 24 := (i 0).isLt

/-- The argument arrays of core `c`. -/
def argsOf (c : Dev nD) : Cert.Spec.Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)

/-- The batch of a point, and the token a row of its tile stands for. -/
abbrev batchOf (i : grid0.Coords) : Fin 24 := ⟨(i 0).val, b_lt i⟩
abbrev tokOf (i : grid0.Coords) (j : Fin 128) : Fin 2560 := ⟨128 * (i 1).val + j.val, by have := i1_lt i; omega⟩

/-- The length word a point reads is its batch's. -/
theorem lenW_at (c : Dev nD) (i : grid0.Coords) : lenW (F := Ideal) c i (tbl m 0) = (argsOf m c).a6 (ix1 (batchOf i)) := by
  obtain rfl : c = 0 := Subsingleton.elim _ _
  refine congrArg (m (((0 : Dev nD) : Thread nD τ).loc main_arg6)) ?_
  funext a
  apply Fin.ext
  match a with
  | ⟨0, _⟩ =>
    show (BitVec.ofNat 32 (i 0).val).toNat + 1 * 0 = (i 0).val
    have := b_lt i
    simp; omega

/-! ## The staged blocks -/

theorem index0 (hO : Ok m) (c : Dev nD) (t : Fin (cfgM m hO).N) (a : Fin 4) : ((cfgM m hO).win 0).index t a = (![((grid0.coords t) 0).val, (tileW (BitVec.ofNat 32 ((grid0.coords t) 1).val) (lenW (F := Ideal) c (grid0.coords t) (tbl m 0))).toNat, 0, 0] : Fin 4 → ℕ) a :=
  congrFun (map0_eq (F := Ideal) (tbl m) (grid0.coords t)) a

/-- Query window 0's block, where the tile staged is the point's own: the tile's rows. -/
theorem iblk0_at (hO : Ok m) (c : Dev nD) (t : Fin (cfgM m hO).N) (hT : tileW (BitVec.ofNat 32 ((grid0.coords t) 1).val) (lenW (F := Ideal) c (grid0.coords t) (tbl m 0)) = BitVec.ofNat 32 ((grid0.coords t) 1).val)
    (j : Fin 128) (h : Fin 8) (d : Fin 512) :
    iblk m hO c 0 t (ix4 0 j h d) = (argsOf m c).a0 (ix4 (batchOf (grid0.coords t)) (tokOf (grid0.coords t) j) h d) := by
  have e : (((cfgM m hO).win 0).rect t).emb (ix4 0 j h d) = (ix4 (batchOf (grid0.coords t)) (tokOf (grid0.coords t) j) h d : S24x2560x8x512.Idx) := by
    funext a
    apply Fin.ext
    refine (Pipeline.Window.rect_emb_val_off ((cfgM m hO).win 0) t (ix4 0 j h d) a).trans ?_
    refine (congrArg (fun x => ((cfgM m hO).win 0).kind.off x (((cfgM m hO).win 0).size a) + ((ix4 0 j h d : S1x128x8x512.Idx) a).val) (index0 m hO c t a)).trans ?_
    rw [hT]
    have hi := i1_lt (grid0.coords t)
    match a with
    | ⟨0, _⟩ => show ((grid0.coords t) 0).val * 1 + 0 = ((grid0.coords t) 0).val; omega
    | ⟨1, _⟩ => show (BitVec.ofNat 32 ((grid0.coords t) 1).val).toNat * 128 + j.val = 128 * ((grid0.coords t) 1).val + j.val; simp only [BitVec.toNat_ofNat]; omega
    | ⟨2, _⟩ => show 0 * 8 + h.val = h.val; omega
    | ⟨3, _⟩ => show 0 * 512 + d.val = d.val; omega
  exact congrArg (m ((c : Thread nD τ).loc main_arg0)) e

theorem index1 (hO : Ok m) (c : Dev nD) (t : Fin (cfgM m hO).N) (a : Fin 4) : ((cfgM m hO).win 1).index t a = (![((grid0.coords t) 0).val, (tileW (BitVec.ofNat 32 ((grid0.coords t) 1).val) (lenW (F := Ideal) c (grid0.coords t) (tbl m 0))).toNat, 0, 0] : Fin 4 → ℕ) a :=
  congrFun (map1_eq (F := Ideal) (tbl m) (grid0.coords t)) a

/-- Query window 1's block, where the tile staged is the point's own: the tile's rows. -/
theorem iblk1_at (hO : Ok m) (c : Dev nD) (t : Fin (cfgM m hO).N) (hT : tileW (BitVec.ofNat 32 ((grid0.coords t) 1).val) (lenW (F := Ideal) c (grid0.coords t) (tbl m 0)) = BitVec.ofNat 32 ((grid0.coords t) 1).val)
    (j : Fin 128) (h : Fin 8) (d : Fin 4) :
    iblk m hO c 1 t (ix4 0 j h d) = (argsOf m c).a1 (ix4 (batchOf (grid0.coords t)) (tokOf (grid0.coords t) j) h d) := by
  have e : (((cfgM m hO).win 1).rect t).emb (ix4 0 j h d) = (ix4 (batchOf (grid0.coords t)) (tokOf (grid0.coords t) j) h d : S24x2560x8x4.Idx) := by
    funext a
    apply Fin.ext
    refine (Pipeline.Window.rect_emb_val_off ((cfgM m hO).win 1) t (ix4 0 j h d) a).trans ?_
    refine (congrArg (fun x => ((cfgM m hO).win 1).kind.off x (((cfgM m hO).win 1).size a) + ((ix4 0 j h d : S1x128x8x4.Idx) a).val) (index1 m hO c t a)).trans ?_
    rw [hT]
    have hi := i1_lt (grid0.coords t)
    match a with
    | ⟨0, _⟩ => show ((grid0.coords t) 0).val * 1 + 0 = ((grid0.coords t) 0).val; omega
    | ⟨1, _⟩ => show (BitVec.ofNat 32 ((grid0.coords t) 1).val).toNat * 128 + j.val = 128 * ((grid0.coords t) 1).val + j.val; simp only [BitVec.toNat_ofNat]; omega
    | ⟨2, _⟩ => show 0 * 8 + h.val = h.val; omega
    | ⟨3, _⟩ => show 0 * 4 + d.val = d.val; omega
  exact congrArg (m ((c : Thread nD τ).loc main_arg1)) e

theorem index2 (hO : Ok m) (c : Dev nD) (t : Fin (cfgM m hO).N) (a : Fin 4) : ((cfgM m hO).win 2).index t a = (![((grid0.coords t) 0).val, (tileW (BitVec.ofNat 32 ((grid0.coords t) 1).val) (lenW (F := Ideal) c (grid0.coords t) (tbl m 0))).toNat, 0, 0] : Fin 4 → ℕ) a :=
  congrFun (map2_eq (F := Ideal) (tbl m) (grid0.coords t)) a

/-- Query window 2's block, where the tile staged is the point's own: the tile's rows. -/
theorem iblk2_at (hO : Ok m) (c : Dev nD) (t : Fin (cfgM m hO).N) (hT : tileW (BitVec.ofNat 32 ((grid0.coords t) 1).val) (lenW (F := Ideal) c (grid0.coords t) (tbl m 0)) = BitVec.ofNat 32 ((grid0.coords t) 1).val)
    (j : Fin 128) (h : Fin 8) (d : Fin 64) :
    iblk m hO c 2 t (ix4 0 j h d) = (argsOf m c).a2 (ix4 (batchOf (grid0.coords t)) (tokOf (grid0.coords t) j) h d) := by
  have e : (((cfgM m hO).win 2).rect t).emb (ix4 0 j h d) = (ix4 (batchOf (grid0.coords t)) (tokOf (grid0.coords t) j) h d : S24x2560x8x64.Idx) := by
    funext a
    apply Fin.ext
    refine (Pipeline.Window.rect_emb_val_off ((cfgM m hO).win 2) t (ix4 0 j h d) a).trans ?_
    refine (congrArg (fun x => ((cfgM m hO).win 2).kind.off x (((cfgM m hO).win 2).size a) + ((ix4 0 j h d : S1x128x8x64.Idx) a).val) (index2 m hO c t a)).trans ?_
    rw [hT]
    have hi := i1_lt (grid0.coords t)
    match a with
    | ⟨0, _⟩ => show ((grid0.coords t) 0).val * 1 + 0 = ((grid0.coords t) 0).val; omega
    | ⟨1, _⟩ => show (BitVec.ofNat 32 ((grid0.coords t) 1).val).toNat * 128 + j.val = 128 * ((grid0.coords t) 1).val + j.val; simp only [BitVec.toNat_ofNat]; omega
    | ⟨2, _⟩ => show 0 * 8 + h.val = h.val; omega
    | ⟨3, _⟩ => show 0 * 64 + d.val = d.val; omega
  exact congrArg (m ((c : Thread nD τ).loc main_arg2)) e

theorem index3 (hO : Ok m) (t : Fin (cfgM m hO).N) (a : Fin 3) : ((cfgM m hO).win 3).index t a = (![((grid0.coords t) 0).val, 0, 0] : Fin 3 → ℕ) a := by
  show (![(BitVec.ofNat 32 ((grid0.coords t) 0).val).toNat, (0#32).toNat, (0#32).toNat] : Fin 3 → ℕ) a = _
  have : ((grid0.coords t) 0).val < 24 := b_lt _
  fin_cases a
  · simp; omega
  · rfl
  · rfl

/-- Key window 3's block: its batch's rows. -/
theorem iblk3_at (hO : Ok m) (c : Dev nD) (t : Fin (cfgM m hO).N) (k : Fin 2560) (d : Fin 512) :
    iblk m hO c 3 t (ix3 0 k d) = (argsOf m c).a3 (ix3 (batchOf (grid0.coords t)) k d) := by
  have h : (((cfgM m hO).win 3).rect t).emb (ix3 0 k d) = (ix3 (batchOf (grid0.coords t)) k d : S24x2560x512.Idx) := by
    funext a
    apply Fin.ext
    refine (Pipeline.Window.rect_emb_val_off ((cfgM m hO).win 3) t (ix3 0 k d) a).trans ?_
    refine (congrArg (fun x => ((cfgM m hO).win 3).kind.off x (((cfgM m hO).win 3).size a) + ((ix3 0 k d : S1x2560x512.Idx) a).val) (index3 m hO t a)).trans ?_
    match a with
    | ⟨0, _⟩ => show ((grid0.coords t) 0).val * 1 + 0 = ((grid0.coords t) 0).val; omega
    | ⟨1, _⟩ => show 0 * 2560 + k.val = k.val; omega
    | ⟨2, _⟩ => show 0 * 512 + d.val = d.val; omega
  exact congrArg (m ((c : Thread nD τ).loc main_arg3)) h

/-- The rows of batch `b`. -/
def B3 (c : Dev nD) (b : Fin 24) : Vec Ideal S1x2560x512 .fp8e4m3 := fun y => (argsOf m c).a3 (ix3 b (y 1) (y 2))

theorem iblk3_eq (hO : Ok m) (c : Dev nD) (t : Fin (cfgM m hO).N) : iblk m hO c 3 t = B3 m c (batchOf (grid0.coords t)) := by
  refine funext fun (y : S1x2560x512.Idx) => ?_
  obtain ⟨u, k, d, rfl⟩ : ∃ (u : Fin 1) (k : Fin 2560) (d : Fin 512), y = (ix3 u k d : S1x2560x512.Idx) := ⟨y 0, y 1, y 2, eq_ix3 y⟩
  obtain rfl : u = 0 := Subsingleton.elim _ _
  exact iblk3_at m hO c t k d

theorem index4 (hO : Ok m) (t : Fin (cfgM m hO).N) (a : Fin 3) : ((cfgM m hO).win 4).index t a = (![((grid0.coords t) 0).val, 0, 0] : Fin 3 → ℕ) a := by
  show (![(BitVec.ofNat 32 ((grid0.coords t) 0).val).toNat, (0#32).toNat, (0#32).toNat] : Fin 3 → ℕ) a = _
  have : ((grid0.coords t) 0).val < 24 := b_lt _
  fin_cases a
  · simp; omega
  · rfl
  · rfl

/-- Key window 4's block: its batch's rows. -/
theorem iblk4_at (hO : Ok m) (c : Dev nD) (t : Fin (cfgM m hO).N) (k : Fin 2560) (d : Fin 4) :
    iblk m hO c 4 t (ix3 0 k d) = (argsOf m c).a4 (ix3 (batchOf (grid0.coords t)) k d) := by
  have h : (((cfgM m hO).win 4).rect t).emb (ix3 0 k d) = (ix3 (batchOf (grid0.coords t)) k d : S24x2560x4.Idx) := by
    funext a
    apply Fin.ext
    refine (Pipeline.Window.rect_emb_val_off ((cfgM m hO).win 4) t (ix3 0 k d) a).trans ?_
    refine (congrArg (fun x => ((cfgM m hO).win 4).kind.off x (((cfgM m hO).win 4).size a) + ((ix3 0 k d : S1x2560x4.Idx) a).val) (index4 m hO t a)).trans ?_
    match a with
    | ⟨0, _⟩ => show ((grid0.coords t) 0).val * 1 + 0 = ((grid0.coords t) 0).val; omega
    | ⟨1, _⟩ => show 0 * 2560 + k.val = k.val; omega
    | ⟨2, _⟩ => show 0 * 4 + d.val = d.val; omega
  exact congrArg (m ((c : Thread nD τ).loc main_arg4)) h

/-- The rows of batch `b`. -/
def B4 (c : Dev nD) (b : Fin 24) : Vec Ideal S1x2560x4 .f32 := fun y => (argsOf m c).a4 (ix3 b (y 1) (y 2))

theorem iblk4_eq (hO : Ok m) (c : Dev nD) (t : Fin (cfgM m hO).N) : iblk m hO c 4 t = B4 m c (batchOf (grid0.coords t)) := by
  refine funext fun (y : S1x2560x4.Idx) => ?_
  obtain ⟨u, k, d, rfl⟩ : ∃ (u : Fin 1) (k : Fin 2560) (d : Fin 4), y = (ix3 u k d : S1x2560x4.Idx) := ⟨y 0, y 1, y 2, eq_ix3 y⟩
  obtain rfl : u = 0 := Subsingleton.elim _ _
  exact iblk4_at m hO c t k d

theorem index5 (hO : Ok m) (t : Fin (cfgM m hO).N) (a : Fin 3) : ((cfgM m hO).win 5).index t a = (![((grid0.coords t) 0).val, 0, 0] : Fin 3 → ℕ) a := by
  show (![(BitVec.ofNat 32 ((grid0.coords t) 0).val).toNat, (0#32).toNat, (0#32).toNat] : Fin 3 → ℕ) a = _
  have : ((grid0.coords t) 0).val < 24 := b_lt _
  fin_cases a
  · simp; omega
  · rfl
  · rfl

/-- Key window 5's block: its batch's rows. -/
theorem iblk5_at (hO : Ok m) (c : Dev nD) (t : Fin (cfgM m hO).N) (k : Fin 2560) (d : Fin 64) :
    iblk m hO c 5 t (ix3 0 k d) = (argsOf m c).a5 (ix3 (batchOf (grid0.coords t)) k d) := by
  have h : (((cfgM m hO).win 5).rect t).emb (ix3 0 k d) = (ix3 (batchOf (grid0.coords t)) k d : S24x2560x64.Idx) := by
    funext a
    apply Fin.ext
    refine (Pipeline.Window.rect_emb_val_off ((cfgM m hO).win 5) t (ix3 0 k d) a).trans ?_
    refine (congrArg (fun x => ((cfgM m hO).win 5).kind.off x (((cfgM m hO).win 5).size a) + ((ix3 0 k d : S1x2560x64.Idx) a).val) (index5 m hO t a)).trans ?_
    match a with
    | ⟨0, _⟩ => show ((grid0.coords t) 0).val * 1 + 0 = ((grid0.coords t) 0).val; omega
    | ⟨1, _⟩ => show 0 * 2560 + k.val = k.val; omega
    | ⟨2, _⟩ => show 0 * 64 + d.val = d.val; omega
  exact congrArg (m ((c : Thread nD τ).loc main_arg5)) h

/-- The rows of batch `b`. -/
def B5 (c : Dev nD) (b : Fin 24) : Vec Ideal S1x2560x64 .bf16 := fun y => (argsOf m c).a5 (ix3 b (y 1) (y 2))

theorem iblk5_eq (hO : Ok m) (c : Dev nD) (t : Fin (cfgM m hO).N) : iblk m hO c 5 t = B5 m c (batchOf (grid0.coords t)) := by
  refine funext fun (y : S1x2560x64.Idx) => ?_
  obtain ⟨u, k, d, rfl⟩ : ∃ (u : Fin 1) (k : Fin 2560) (d : Fin 64), y = (ix3 u k d : S1x2560x64.Idx) := ⟨y 0, y 1, y 2, eq_ix3 y⟩
  obtain rfl : u = 0 := Subsingleton.elim _ _
  exact iblk5_at m hO c t k d

/-- The key array after every point is its batch's. -/
theorem keysOf_eq (hO : Ok m) (c : Dev nD) : ∀ (n : ℕ) (t : Fin (cfgM m hO).N), t.val = n →
    keysOf m hO c t.val t.isLt = csOf (B3 m c (batchOf (grid0.coords t))) (B4 m c (batchOf (grid0.coords t))) (B5 m c (batchOf (grid0.coords t))) := by
  intro n
  induction n with
  | zero =>
    intro t ht
    rw [keysOf_first m hO c t (by omega), iblk3_eq, iblk4_eq, iblk5_eq]
  | succ n ih =>
    intro t ht
    by_cases h0 : t.val % 20 = 0
    · rw [keysOf_first m hO c t h0, iblk3_eq, iblk4_eq, iblk5_eq]
    · rw [keysOf_next m hO c t h0]
      have hb : batchOf (grid0.coords ⟨t.val - 1, Nat.lt_of_le_of_lt (Nat.sub_le _ _) t.isLt⟩) = batchOf (grid0.coords t) := by
        apply Fin.ext
        have e0 : (grid0.coords t 0).val = t.val / 20 % 24 := Pipeline.Grid.coords_val (G := grid0) t 0 (by decide) rfl
        have e1 : (grid0.coords ⟨t.val - 1, Nat.lt_of_le_of_lt (Nat.sub_le _ _) t.isLt⟩ 0).val = (t.val - 1) / 20 % 24 := Pipeline.Grid.coords_val (G := grid0) ⟨t.val - 1, Nat.lt_of_le_of_lt (Nat.sub_le _ _) t.isLt⟩ 0 (by decide) rfl
        show (grid0.coords ⟨t.val - 1, _⟩ 0).val = (grid0.coords t 0).val
        rw [e0, e1]; omega
      rw [ih ⟨t.val - 1, Nat.lt_of_le_of_lt (Nat.sub_le _ _) t.isLt⟩ (by show t.val - 1 = n; omega), hb]

/-! ## Skipped points and tiles -/

/-- The skip condition, as a comparison of numbers. -/
theorem cond2_iff (i : grid0.Coords) (w : BitVec 32) : k0_cond2 i w = 1#1 ↔ w.toInt ≤ 128 * ((i 1).val : ℤ) := by
  have hi := i1_lt i
  have h1 : ∀ b : Bool, (Scalar.cmpi .ne (Scalar.extui (BitVec.ofBool b) : BitVec 32) 0#32 = 1#1) ↔ b = true := by decide
  have h3 : k0_cond2 i w = Scalar.cmpi .ne (Scalar.extui (BitVec.ofBool (w.sle (Scalar.muli (BitVec.ofNat 32 (i 1).val) 128#32))) : BitVec 32) 0#32 := rfl
  have hm : Scalar.muli (BitVec.ofNat 32 (i 1).val) 128#32 = BitVec.ofNat 32 ((i 1).val * 128) := (BitVec.ofNat_mul _ _).symm
  have e := WordCmp.toInt_ofNat_of_lt (w := 32) (a := (i 1).val * 128) (by omega)
  rw [h3, h1, hm, BitVec.sle_iff_toInt_le, e]
  omega

theorem okTok_iff (a n : ℕ) (w : BitVec 32) (h : 128 * a + n < 2 ^ 31) : okTok a w n = 1#1 ↔ ((128 * a + n : ℕ) : ℤ) < w.toInt := by
  have e := WordCmp.toInt_ofNat_of_lt (w := 32) (a := 128 * a + n) h
  have h1 : ∀ b : Bool, BitVec.ofBool b = 1#1 ↔ b = true := by decide
  rw [okTok, WordCmp.cmpi_slt_eq, h1, e, decide_eq_true_iff]

/-- A point that skips its tile stands for no token before the batch's length. -/
theorem skip_ok (i : grid0.Coords) (w : BitVec 32) (j : Fin 128) (hc : k0_cond2 i w = 1#1) : ¬ okTok (i 1).val w j.val = 1#1 := by
  have hi := i1_lt i
  rw [okTok_iff _ _ _ (by omega)]
  rw [cond2_iff] at hc
  push_cast; omega

/-- A length that is at most 2^31 - 128 stages a tile it does not skip as itself. -/
theorem tile_own (i : grid0.Coords) (w : BitVec 32) (hw : w.toInt ≤ 2147483520) (hc : ¬ k0_cond2 i w = 1#1) :
    tileW (BitVec.ofNat 32 (i 1).val) w = BitVec.ofNat 32 (i 1).val := by
  have hi := i1_lt i
  rw [cond2_iff] at hc
  have hn : w.toInt = (w.toNat : ℤ) := WordCmp.toInt_eq_toNat_of_lt_half ((WordCmp.toInt_nonneg_iff_lt_half w).1 (by omega))
  exact tileW_eq _ hi w (by omega) (by omega)

/-! ## The output blocks as functions of the arguments -/

/-- The zero blocks. -/
theorem zero6 (j : Fin 128) (h : Fin 8) (d : Fin 512) : (k0_pay3 (F := Ideal)) (ix4 0 j h d) = 0 := by pointwise [k0_pay3]
theorem zero7 (j : Fin 128) (h : Fin 8) : (k0_pay4 (F := Ideal)) (ix3 0 j h) = 0 := by pointwise [k0_pay4]

theorem attnV_congr {s s' c c' : ℕ → EReal} {n : ℕ} (hs : ∀ k < n, s k = s' k) (hc : ∀ k < n, c k = c' k) : attnV s c n = attnV s' c' n := by
  have h1 : Cert.Soft.mx s n = Cert.Soft.mx s' n := Finset.sup_congr rfl fun k hk => hs k (Finset.mem_range.1 hk)
  have h2 : Cert.Soft.smE s n = Cert.Soft.smE s' n := Finset.sum_congr rfl fun k hk => by rw [h1, hs k (Finset.mem_range.1 hk)]
  refine Finset.sum_congr rfl fun k hk => ?_
  rw [h1, h2, hs k (Finset.mem_range.1 hk), hc k (Finset.mem_range.1 hk)]

theorem attnL_congr {s s' : ℕ → EReal} {n : ℕ} (hs : ∀ k < n, s k = s' k) : attnL s n = attnL s' n := by
  have h1 : Cert.Soft.mx s n = Cert.Soft.mx s' n := Finset.sup_congr rfl fun k hk => hs k (Finset.mem_range.1 hk)
  have h2 : Cert.Soft.smE s n = Cert.Soft.smE s' n := Finset.sum_congr rfl fun k hk => by rw [h1, hs k (Finset.mem_range.1 hk)]
  rw [attnL, attnL, h1, h2]

section Block

variable (A : Cert.Spec.Args) (i : grid0.Coords) (x0 : Vec Ideal S1x128x8x512 .fp8e4m3) (x1 : Vec Ideal S1x128x8x4 .f32) (x2 : Vec Ideal S1x128x8x64 .bf16)
  (y3 : Vec Ideal S1x2560x512 .fp8e4m3) (y4 : Vec Ideal S1x2560x4 .f32) (y5 : Vec Ideal S1x2560x64 .bf16)
  (h0 : ∀ j h d, x0 (ix4 0 j h d) = A.a0 (ix4 (batchOf i) (tokOf i j) h d))
  (h1 : ∀ j h d, x1 (ix4 0 j h d) = A.a1 (ix4 (batchOf i) (tokOf i j) h d))
  (h2 : ∀ j h d, x2 (ix4 0 j h d) = A.a2 (ix4 (batchOf i) (tokOf i j) h d))
  (h3 : ∀ k d, y3 (ix3 0 k d) = A.a3 (ix3 (batchOf i) k d)) (h4 : ∀ k d, y4 (ix3 0 k d) = A.a4 (ix3 (batchOf i) k d)) (h5 : ∀ k d, y5 (ix3 0 k d) = A.a5 (ix3 (batchOf i) k d))
include h0 h1 h2 h3 h4 h5

/-- Where the staged tile is the point's own, the scores of a row are the specification's. -/
theorem score_at (j : Fin 128) (h : Fin 8) (k : ℕ) (hk : k < 2560) :
    scE (i 1).val (qsOf x0 x1 x2) (csOf y3 y4 y5) (rowOf j h) k = Cert.Spec.score A (batchOf i) (tokOf i j) h k := by
  have hr : 128 * (i 1).val + (rowOf j h).val / 8 = (tokOf i j).val := by
    show _ + (j.val * 8 + h.val) / 8 = _ + _
    have := h.isLt; omega
  rw [scE, Cert.Spec.score, dif_pos hk, hr, dotRK_eq _ _ _ _ _ _ j h k hk]
  refine if_congr Iff.rfl (congrArg (· * (kap : EReal)) (congrArg₂ (· + ·) (Finset.sum_congr rfl fun d _ => ?_) (Finset.sum_congr rfl fun e _ => ?_))) rfl
  · rw [h0, h1, h3, h4]; rfl
  · rw [h2, h5]

omit h0 h1 h2 h5 in
/-- Its columns are the specification's keys. -/
theorem col_at (d : Fin 512) (k : ℕ) : colK (csOf y3 y4 y5) d k = Cert.Spec.val A (batchOf i) d k := by
  rw [colK, Cert.Spec.val]
  by_cases hk : k < 2560
  · rw [dif_pos hk, dif_pos hk]
    refine (csOf_lat y3 y4 y5 ⟨k, hk⟩ d).trans ?_
    rw [h3, h4]; rfl
  · rw [dif_neg hk, dif_neg hk]

end Block

section Block

variable (A : Cert.Spec.Args) (i : grid0.Coords) (x0 : Vec Ideal S1x128x8x512 .fp8e4m3) (x1 : Vec Ideal S1x128x8x4 .f32) (x2 : Vec Ideal S1x128x8x64 .bf16)
  (y3 : Vec Ideal S1x2560x512 .fp8e4m3) (y4 : Vec Ideal S1x2560x4 .f32) (y5 : Vec Ideal S1x2560x64 .bf16)
  (hf : (A.a6 (ix1 (batchOf i))).toInt ≤ 2147483520)
  (h0 : tileW (BitVec.ofNat 32 (i 1).val) (A.a6 (ix1 (batchOf i))) = BitVec.ofNat 32 (i 1).val → ∀ j h d, x0 (ix4 0 j h d) = A.a0 (ix4 (batchOf i) (tokOf i j) h d))
  (h1 : tileW (BitVec.ofNat 32 (i 1).val) (A.a6 (ix1 (batchOf i))) = BitVec.ofNat 32 (i 1).val → ∀ j h d, x1 (ix4 0 j h d) = A.a1 (ix4 (batchOf i) (tokOf i j) h d))
  (h2 : tileW (BitVec.ofNat 32 (i 1).val) (A.a6 (ix1 (batchOf i))) = BitVec.ofNat 32 (i 1).val → ∀ j h d, x2 (ix4 0 j h d) = A.a2 (ix4 (batchOf i) (tokOf i j) h d))
  (h3 : ∀ k d, y3 (ix3 0 k d) = A.a3 (ix3 (batchOf i) k d)) (h4 : ∀ k d, y4 (ix3 0 k d) = A.a4 (ix3 (batchOf i) k d)) (h5 : ∀ k d, y5 (ix3 0 k d) = A.a5 (ix3 (batchOf i) k d))
include hf h0 h1 h2 h3 h4 h5

/-- The first output block of a point, at an index: the specification's. -/
theorem out6_at (j : Fin 128) (h : Fin 8) (d : Fin 512) :
    out6 i (A.a6 (ix1 (batchOf i))) x0 x1 x2 (csOf y3 y4 y5) (ix4 0 j h d) = Cert.Spec.out A (batchOf i) (tokOf i j) h d := by
  by_cases hc : k0_cond2 i (A.a6 (ix1 (batchOf i))) = 1#1
  · refine Eq.trans ?_ (if_neg (skip_ok i _ j hc)).symm
    unfold out6; rw [if_pos hc]
    exact zero6 j h d
  · have hT := tile_own i _ hf hc
    unfold out6; rw [if_neg hc, outO_fin]
    exact if_congr Iff.rfl (attnV_congr (fun k hk => score_at A i x0 x1 x2 y3 y4 y5 (h0 hT) (h1 hT) (h2 hT) h3 h4 h5 j h k hk) (fun k _ => col_at A i y3 y4 y5 h3 h4 d k)) rfl

/-- The second output block of a point, at an index: the specification's. -/
theorem out7_at (j : Fin 128) (h : Fin 8) :
    out7 i (A.a6 (ix1 (batchOf i))) x0 x1 x2 (csOf y3 y4 y5) (ix3 0 j h) = Cert.Spec.lse A (batchOf i) (tokOf i j) h := by
  by_cases hc : k0_cond2 i (A.a6 (ix1 (batchOf i))) = 1#1
  · refine Eq.trans ?_ (if_neg (skip_ok i _ j hc)).symm
    unfold out7; rw [if_pos hc]
    exact zero7 j h
  · have hT := tile_own i _ hf hc
    unfold out7; rw [if_neg hc, outL_fin]
    exact if_congr Iff.rfl (attnL_congr (fun k hk => score_at A i x0 x1 x2 y3 y4 y5 (h0 hT) (h1 hT) (h2 hT) h3 h4 h5 j h k hk)) rfl

end Block

variable (hO : Ok m) (c : Dev nD)

/-- What the lengths precondition says of core `c`'s lengths. -/
def Fits : Prop := ∀ b : Fin 24, ((argsOf m c).a6 (ix1 b)).toInt ≤ 2147483520

theorem left6_at (hF : Fits m c) (t : Fin (cfgM m hO).N) (j : Fin 128) (h : Fin 8) (d : Fin 512) :
    left6 m hO c t (ix4 0 j h d) = Cert.Spec.out (argsOf m c) (batchOf (grid0.coords t)) (tokOf (grid0.coords t) j) h d := by
  have hl := lenW_at m c (grid0.coords t)
  unfold left6
  rw [keysOf_eq m hO c _ t rfl, hl]
  exact out6_at (argsOf m c) (grid0.coords t) _ _ _ _ _ _ (hF _)
    (fun hT => iblk0_at m hO c t (hl ▸ hT)) (fun hT => iblk1_at m hO c t (hl ▸ hT)) (fun hT => iblk2_at m hO c t (hl ▸ hT))
    (fun _ _ => rfl) (fun _ _ => rfl) (fun _ _ => rfl) j h d

theorem left7_at (hF : Fits m c) (t : Fin (cfgM m hO).N) (j : Fin 128) (h : Fin 8) :
    left7 m hO c t (ix3 0 j h) = Cert.Spec.lse (argsOf m c) (batchOf (grid0.coords t)) (tokOf (grid0.coords t) j) h := by
  have hl := lenW_at m c (grid0.coords t)
  unfold left7
  rw [keysOf_eq m hO c _ t rfl, hl]
  exact out7_at (argsOf m c) (grid0.coords t) _ _ _ _ _ _ (hF _)
    (fun hT => iblk0_at m hO c t (hl ▸ hT)) (fun hT => iblk1_at m hO c t (hl ▸ hT)) (fun hT => iblk2_at m hO c t (hl ▸ hT))
    (fun _ _ => rfl) (fun _ _ => rfl) (fun _ _ => rfl) j h

end Cert.KernelIdeal.Hand

end
-- ==== Proof.KIOut.lean ====
/- The two result arrays of the attention kernel over the extended reals, as one function of the arguments, and the
   executions that end with them. -/
module

public import proofs.«01_k».proof.Proof.KIRead
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ) (ρ : Dev nD → PrngReg) (hO : Ok m) (c : Dev nD)

/-- The result arrays. -/
def resO : Buf (Elt Ideal) ((c : Thread nD τ).loc main_v0_0) := fun y : S24x2560x8x512.Idx => Cert.Spec.out (argsOf m c) (y 0) (y 1) (y 2) (y 3)
def resL : Buf (Elt Ideal) ((c : Thread nD τ).loc main_v0_1) := fun y : S24x2560x8.Idx => Cert.Spec.lse (argsOf m c) (y 0) (y 1) (y 2)

theorem index6 (t : Fin (cfgM m hO).N) (a : Fin 4) : ((cfgM m hO).win 6).index t a = (![((grid0.coords t) 0).val, ((grid0.coords t) 1).val, 0, 0] : Fin 4 → ℕ) a := by
  show (![(BitVec.ofNat 32 ((grid0.coords t) 0).val).toNat, (BitVec.ofNat 32 ((grid0.coords t) 1).val).toNat, (0#32).toNat, (0#32).toNat] : Fin 4 → ℕ) a = _
  have h0 : ((grid0.coords t) 0).val < 24 := b_lt _
  have h1 := i1_lt (grid0.coords t)
  fin_cases a
  · simp; omega
  · simp; omega
  · rfl
  · rfl

theorem index7 (t : Fin (cfgM m hO).N) (a : Fin 3) : ((cfgM m hO).win 7).index t a = (![((grid0.coords t) 0).val, ((grid0.coords t) 1).val, 0] : Fin 3 → ℕ) a := by
  show (![(BitVec.ofNat 32 ((grid0.coords t) 0).val).toNat, (BitVec.ofNat 32 ((grid0.coords t) 1).val).toNat, (0#32).toNat] : Fin 3 → ℕ) a = _
  have h0 : ((grid0.coords t) 0).val < 24 := b_lt _
  have h1 := i1_lt (grid0.coords t)
  fin_cases a
  · simp; omega
  · simp; omega
  · rfl

/-- Where the elements of a point's first output block lie. -/
theorem emb6 (t : Fin (cfgM m hO).N) (j : Fin 128) (h : Fin 8) (d : Fin 512) :
    (((cfgM m hO).win 6).rect t).emb (ix4 0 j h d) = (ix4 (batchOf (grid0.coords t)) (tokOf (grid0.coords t) j) h d : S24x2560x8x512.Idx) := by
  funext a
  apply Fin.ext
  refine (Pipeline.Window.rect_emb_val_off ((cfgM m hO).win 6) t (ix4 0 j h d) a).trans ?_
  refine (congrArg (fun x => ((cfgM m hO).win 6).kind.off x (((cfgM m hO).win 6).size a) + ((ix4 0 j h d : S1x128x8x512.Idx) a).val) (index6 m hO t a)).trans ?_
  match a with
  | ⟨0, _⟩ => show ((grid0.coords t) 0).val * 1 + 0 = ((grid0.coords t) 0).val; omega
  | ⟨1, _⟩ => show ((grid0.coords t) 1).val * 128 + j.val = 128 * ((grid0.coords t) 1).val + j.val; omega
  | ⟨2, _⟩ => show 0 * 8 + h.val = h.val; omega
  | ⟨3, _⟩ => show 0 * 512 + d.val = d.val; omega

/-- Where the elements of a point's second output block lie. -/
theorem emb7 (t : Fin (cfgM m hO).N) (j : Fin 128) (h : Fin 8) :
    (((cfgM m hO).win 7).rect t).emb (ix3 0 j h) = (ix3 (batchOf (grid0.coords t)) (tokOf (grid0.coords t) j) h : S24x2560x8.Idx) := by
  funext a
  apply Fin.ext
  refine (Pipeline.Window.rect_emb_val_off ((cfgM m hO).win 7) t (ix3 0 j h) a).trans ?_
  refine (congrArg (fun x => ((cfgM m hO).win 7).kind.off x (((cfgM m hO).win 7).size a) + ((ix3 0 j h : S1x128x8.Idx) a).val) (index7 m hO t a)).trans ?_
  match a with
  | ⟨0, _⟩ => show ((grid0.coords t) 0).val * 1 + 0 = ((grid0.coords t) 0).val; omega
  | ⟨1, _⟩ => show ((grid0.coords t) 1).val * 128 + j.val = 128 * ((grid0.coords t) 1).val + j.val; omega
  | ⟨2, _⟩ => show 0 * 8 + h.val = h.val; omega

/-- The point of batch `b` whose tile holds token `T`. -/
def ptOf (b : Fin 24) (T : Fin 2560) : Fin (cfgM m hO).N := (⟨20 * b.val + T.val / 128, by show _ < 480; omega⟩ : Fin grid0.N)

theorem ptOf_coords (b : Fin 24) (T : Fin 2560) :
    batchOf (grid0.coords (ptOf m hO b T)) = b ∧ tokOf (grid0.coords (ptOf m hO b T)) ⟨T.val % 128, by omega⟩ = T := by
  have e0 : (grid0.coords (ptOf m hO b T) 0).val = (20 * b.val + T.val / 128) / 20 % 24 := Pipeline.Grid.coords_val (G := grid0) (ptOf m hO b T) 0 (by decide) rfl
  have e1 : (grid0.coords (ptOf m hO b T) 1).val = (20 * b.val + T.val / 128) / 1 % 20 := Pipeline.Grid.coords_val (G := grid0) (ptOf m hO b T) 1 (by decide) rfl
  refine ⟨Fin.ext ?_, Fin.ext ?_⟩
  · show (grid0.coords (ptOf m hO b T) 0).val = b.val
    rw [e0]; omega
  · show 128 * (grid0.coords (ptOf m hO b T) 1).val + T.val % 128 = T.val
    rw [e1]; omega

/-- Consecutive points work on different tiles. -/
theorem tile_ne (t : Fin (cfgM m hO).N) (h : t.val + 1 < (cfgM m hO).N) :
    ((grid0.coords (⟨t.val + 1, h⟩ : Fin grid0.N)) 1).val ≠ ((grid0.coords t) 1).val := by
  have e0 : (grid0.coords t 1).val = t.val / 1 % 20 := Pipeline.Grid.coords_val (G := grid0) t 1 (by decide) rfl
  have e1 : (grid0.coords (⟨t.val + 1, h⟩ : Fin grid0.N) 1).val = (t.val + 1) / 1 % 20 := Pipeline.Grid.coords_val (G := grid0) (⟨t.val + 1, h⟩ : Fin grid0.N) 1 (by decide) rfl
  rw [e0, e1]; omega

/-- The outputs are written back at every point. -/
theorem flush6 (t : Fin (cfgM m hO).N) : ((cfgM m hO).win 6).flush t = true := by
  refine (Pipeline.Window.flush_out ((cfgM m hO).win 6) rfl t).2 ?_
  by_cases hN : t.val + 1 = (cfgM m hO).N
  · exact Or.inl hN
  · have hlt : t.val + 1 < (cfgM m hO).N := Nat.lt_of_le_of_ne t.isLt hN
    refine Or.inr ⟨hlt, fun h => tile_ne m hO t hlt ?_⟩
    have e0 := index6 m hO t (1 : Fin 4)
    have e1 := index6 m hO ⟨t.val + 1, hlt⟩ (1 : Fin 4)
    rw [h, e0] at e1
    exact e1.symm

theorem flush7 (t : Fin (cfgM m hO).N) : ((cfgM m hO).win 7).flush t = true := by
  refine (Pipeline.Window.flush_out ((cfgM m hO).win 7) rfl t).2 ?_
  by_cases hN : t.val + 1 = (cfgM m hO).N
  · exact Or.inl hN
  · have hlt : t.val + 1 < (cfgM m hO).N := Nat.lt_of_le_of_ne t.isLt hN
    refine Or.inr ⟨hlt, fun h => tile_ne m hO t hlt ?_⟩
    have e0 := index7 m hO t (1 : Fin 3)
    have e1 := index7 m hO ⟨t.val + 1, hlt⟩ (1 : Fin 3)
    rw [h, e0] at e1
    exact e1.symm

/-- The first result array. -/
theorem arr6 (hF : Fits m c) : (dats m hO 0 c).arrAt 6 (cfgM m hO).N = resO m c := by
  refine (dats m hO 0 c).arrAt_eq_of_emb 6 (resO m c) (fun t _ y => ?_) (fun i => ?_)
  · obtain ⟨u, j, h, d, rfl⟩ : ∃ (u : Fin 1) (j : Fin 128) (h : Fin 8) (d : Fin 512), y = (ix4 u j h d : S1x128x8x512.Idx) :=
      ⟨(show S1x128x8x512.Idx from y) 0, (show S1x128x8x512.Idx from y) 1, (show S1x128x8x512.Idx from y) 2, (show S1x128x8x512.Idx from y) 3, eq_ix4 _⟩
    obtain rfl : u = 0 := Subsingleton.elim _ _
    refine Eq.trans ?_ (congrArg (resO m c) (emb6 m hO t j h d)).symm
    exact (congrFun (after0_6 m hO c t) _).trans (left6_at m hO c hF t j h d)
  · obtain ⟨b, T, h, d, rfl⟩ : ∃ (b : Fin 24) (T : Fin 2560) (h : Fin 8) (d : Fin 512), i = (ix4 b T h d : S24x2560x8x512.Idx) :=
      ⟨(show S24x2560x8x512.Idx from i) 0, (show S24x2560x8x512.Idx from i) 1, (show S24x2560x8x512.Idx from i) 2, (show S24x2560x8x512.Idx from i) 3, eq_ix4 _⟩
    refine ⟨ptOf m hO b T, flush6 m hO _, ?_⟩
    have e := emb6 m hO (ptOf m hO b T) ⟨T.val % 128, by omega⟩ h d
    rw [(ptOf_coords m hO b T).1, (ptOf_coords m hO b T).2] at e
    rw [← e]
    exact View.emb_mem_set (v := (((cfgM m hO).win 6).blk (ptOf m hO b T)).view) (ix4 0 ⟨T.val % 128, by omega⟩ h d)

/-- The second result array. -/
theorem arr7 (hF : Fits m c) : (dats m hO 0 c).arrAt 7 (cfgM m hO).N = resL m c := by
  refine (dats m hO 0 c).arrAt_eq_of_emb 7 (resL m c) (fun t _ y => ?_) (fun i => ?_)
  · obtain ⟨u, j, h, rfl⟩ : ∃ (u : Fin 1) (j : Fin 128) (h : Fin 8), y = (ix3 u j h : S1x128x8.Idx) :=
      ⟨(show S1x128x8.Idx from y) 0, (show S1x128x8.Idx from y) 1, (show S1x128x8.Idx from y) 2, eq_ix3 _⟩
    obtain rfl : u = 0 := Subsingleton.elim _ _
    refine Eq.trans ?_ (congrArg (resL m c) (emb7 m hO t j h)).symm
    exact (congrFun (after0_7 m hO c t) _).trans (left7_at m hO c hF t j h)
  · obtain ⟨b, T, h, rfl⟩ : ∃ (b : Fin 24) (T : Fin 2560) (h : Fin 8), i = (ix3 b T h : S24x2560x8.Idx) :=
      ⟨(show S24x2560x8.Idx from i) 0, (show S24x2560x8.Idx from i) 1, (show S24x2560x8.Idx from i) 2, eq_ix3 _⟩
    refine ⟨ptOf m hO b T, flush7 m hO _, ?_⟩
    have e := emb7 m hO (ptOf m hO b T) ⟨T.val % 128, by omega⟩ h
    rw [(ptOf_coords m hO b T).1, (ptOf_coords m hO b T).2] at e
    rw [← e]
    exact View.emb_mem_set (v := (((cfgM m hO).win 7).blk (ptOf m hO b T)).view) (ix3 0 ⟨T.val % 128, by omega⟩ h)

/-- Where the lengths fit, every weakly fair execution terminates with the specification in the two result arrays, the
    arguments unchanged and every counter at zero. -/
theorem run_value (hF : ∀ c, Fits m c) : θ_run defs (onTc (τ := τ) (main (F := Ideal))) ⟨m, fun _ => 0, ρ⟩ (fun r => (∀ c : Dev nD,
      r.2.mem ((c.tc : Thread nD τ).loc main_v0_0) = resO m c
      ∧ r.2.mem ((c.tc : Thread nD τ).loc main_v0_1) = resL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 6).trans (arr6 m (ok_all m) c (hF c)),
      ((h.1 c).1 7).trans (arr7 m (ok_all m) c (hF c)),
      ((h.1 c).1 0).trans (((dats m (ok_all m) 0 c).arrAt_in 0 rfl _).trans ((A_eq m (ok_all m) c 0).trans (V_main_arg0 m c))),
      ((h.1 c).1 1).trans (((dats m (ok_all m) 0 c).arrAt_in 1 rfl _).trans ((A_eq m (ok_all m) c 1).trans (V_main_arg1 m c))),
      ((h.1 c).1 2).trans (((dats m (ok_all m) 0 c).arrAt_in 2 rfl _).trans ((A_eq m (ok_all m) c 2).trans (V_main_arg2 m c))),
      ((h.1 c).1 3).trans (((dats m (ok_all m) 0 c).arrAt_in 3 rfl _).trans ((A_eq m (ok_all m) c 3).trans (V_main_arg3 m c))),
      ((h.1 c).1 4).trans (((dats m (ok_all m) 0 c).arrAt_in 4 rfl _).trans ((A_eq m (ok_all m) c 4).trans (V_main_arg4 m c))),
      ((h.1 c).1 5).trans (((dats m (ok_all m) 0 c).arrAt_in 5 rfl _).trans ((A_eq m (ok_all m) c 5).trans (V_main_arg5 m c))),
      ((h.1 c).2 main_arg6 (by decide : main_arg6 ∈ Pipeline.restRefs sig spec0)).trans (V_main_arg6 m c)⟩, h.2⟩) (run_main m ρ (ok_all m))

end Cert.KernelIdeal.Hand

end
-- ==== Proof.RefVal.lean ====
/- The reference's values over the extended reals, at an index: the arrays its later operations compute from the contents
   they start from. -/
module

public import proofs.«01_k».proof.Proof.Spec
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Hand

open Cert.ReferenceIdeal.Gen Cert.ReferenceIdeal.Value
open Idealize.ShloMosaic Idealize.ShloMosaic.TcCoe Idealize.SL.Sem
open Cert.KernelIdeal.Hand (kap)

variable (V : Valuation τ sig (Elt Ideal))

/-- The arrays the later operations start from. -/
def argsV : Cert.Spec.Args where
  a0 := V (Proc.devRef .tc main_v0_0)
  a1 := V (Proc.devRef .tc main_arg1)
  a2 := V (Proc.devRef .tc main_arg2)
  a3 := V (Proc.devRef .tc main_v0_1)
  a4 := V (Proc.devRef .tc main_arg4)
  a5 := V (Proc.devRef .tc main_arg5)
  a6 := V (Proc.devRef .tc main_arg6)

theorem v12_at (b : Fin 24) (k : Fin 2560) (d : Fin 512) : (res_main_v12 V : FVec Ideal S24x2560x512 .bf16) (ix3 b k d) = Cert.Spec.key (argsV V) b k d := by
  unfold res_main_v12
  clean_types
  pointwise
  rfl

theorem v20_at (k : Fin 2560) : (res_main_v20 V : IVec S2560 32) (ix1 k) = BitVec.ofNat 32 k.val := by
  unfold res_main_v20
  clean_types
  pointwise

/-- The reference's scale: one over the root of 192. -/
theorem scale_eq : Ideal.div 1 (Ideal.sqrt (Ideal.ofBits FTy.f32 1128267776#32)) = (kap : EReal) := by
  have h : Ideal.ofBits FTy.f32 1128267776#32 = ((192 : ℝ) : EReal) := by
    simp [Ideal.ofBits, Ideal.ieee, -EReal.coe_mul]; norm_num
  rw [h, Ideal.sqrt_coe, if_neg (by norm_num), Ideal.div_coe (by positivity), one_mul, one_div]
  rfl

/-- A fold of maxima over the first `n` keys. -/
theorem fold_max (n : ℕ) (f : ℕ → EReal) : (Finset.univ : Finset (Fin n)).fold max ⊥ (fun k => f k.val) = Cert.Soft.mx f n := by
  show (Finset.univ : Finset (Fin n)).sup (fun k => f k.val) = (Finset.range n).sup f
  exact le_antisymm (Finset.sup_le fun k _ => Finset.le_sup (f := f) (Finset.mem_range.2 k.isLt))
    (Finset.sup_le fun k hk => Finset.le_sup (f := fun k : Fin n => f k.val) (Finset.mem_univ ⟨k, Finset.mem_range.1 hk⟩))

/-- A sum of exponentials over the first `n` keys. -/
theorem sum_exp (n : ℕ) (f : ℕ → EReal) : (∑ k : Fin n, Ideal.exp (f k.val - Cert.Soft.mx f n)) = Cert.Soft.smE f n :=
  (Finset.sum_range fun k => Ideal.exp (f k - Cert.Soft.mx f n)).symm

theorem fold_eq {n : ℕ} {f g : Fin n → EReal} {v : EReal} (h : ∀ k, f k = g k) (e : (Finset.univ : Finset (Fin n)).fold max ⊥ g = v) :
    (Finset.univ : Finset (Fin n)).fold max ⊥ f = v := by rw [← e, funext h]

theorem sum_eq {n : ℕ} {f g : Fin n → EReal} {v : EReal} (h : ∀ k, f k = g k) (e : (∑ k, g k) = v) : (∑ k, f k) = v := by rw [← e, funext h]

/-- The masked scores. -/
theorem v27_at (b : Fin 24) (t : Fin 2560) (h : Fin 8) (k : Fin 2560) : (res_main_v27 V : FVec Ideal S24x2560x8x2560 .f32) (ix4 b t h k) = Cert.Spec.score (argsV V) b t h k.val := by
  unfold res_main_v27
  clean_types
  pointwise
  rw [scale_eq, Cert.Spec.score, dif_pos k.isLt]
  refine Eq.trans (congrArg (fun z => Scalar.select z _ _) ((congrArg₂ _ (v20_at V k) (v20_at V t)).trans (Cert.KernelIdeal.Hand.sle_small (by omega) (by omega)))) ?_
  have hn : (id (constant S_ FTy.f32 4286578688#32) : FVec Ideal S_ .f32) ix0 = ⊥ := Cert.KernelIdeal.Hand.ofBits_ninf
  by_cases hk : k.val ≤ t.val
  · rw [if_pos hk, if_pos hk]
    refine congrArg (· * (kap : EReal)) (congrArg₂ (· + ·) (Finset.sum_congr rfl fun d _ => ?_) rfl)
    exact congrArg₂ (· * ·) rfl (v12_at V b k d)
  · rw [if_neg hk, if_neg hk]
    exact hn

/-- The largest score. -/
theorem v29_at (b : Fin 24) (t : Fin 2560) (h : Fin 8) : (res_main_v29 V : FVec Ideal S24x2560x8x1 .f32) (ix4 b t h 0) = Cert.Soft.mx (Cert.Spec.score (argsV V) b t h) 2560 := by
  unfold res_main_v29
  clean_types
  pointwise
  rw [Cert.KernelIdeal.Hand.ofBits_ninf]
  exact fold_eq (v27_at V b t h) (fold_max 2560 _)

/-- The exponentials. -/
theorem v32_at (b : Fin 24) (t : Fin 2560) (h : Fin 8) (k : Fin 2560) : (res_main_v32 V : FVec Ideal S24x2560x8x2560 .f32) (ix4 b t h k) = Ideal.exp (Cert.Spec.score (argsV V) b t h k.val - Cert.Soft.mx (Cert.Spec.score (argsV V) b t h) 2560) := by
  unfold res_main_v32
  clean_types
  pointwise
  exact congrArg Ideal.exp (congrArg₂ (· - ·) (v27_at V b t h k) (v29_at V b t h))

/-- Their sum. -/
theorem v34_at (b : Fin 24) (t : Fin 2560) (h : Fin 8) : (res_main_v34 V : FVec Ideal S24x2560x8x1 .f32) (ix4 b t h 0) = Cert.Soft.smE (Cert.Spec.score (argsV V) b t h) 2560 := by
  unfold res_main_v34
  clean_types
  pointwise
  exact sum_eq (v32_at V b t h) (sum_exp 2560 _)

/-- Whether a token lies before its batch's length. -/
theorem v50_at (b : Fin 24) (t : Fin 2560) : (res_main_v50 V : IVec S24x2560x1 1) (ix3 b t 0) = Cert.Spec.okWord (argsV V) b t := by
  unfold res_main_v50 res_main_v20
  clean_types
  pointwise
  rfl

/-- The first result, from the arrays it is computed of. -/
theorem o_at (E : FVec Ideal S24x2560x8x2560 .f32) (L : FVec Ideal S24x2560x8x1 .f32) (C : FVec Ideal S24x2560x512 .bf16) (W : IVec S24x2560x1 1)
    (b : Fin 24) (t : Fin 2560) (h : Fin 8) (d : Fin 512) :
    (select (broadcastInDim S24x2560x8x512 ![0, 1, 2, 3] bcast_S24x2560x1x1_S24x2560x8x512_0_1_2_3 (broadcastInDim S24x2560x1x1 ![0, 1, 2] bcast_S24x2560x1_S24x2560x1x1_0_1_2 W)) (truncf .bf16 (Host.dotGeneral dot_S24x2560x8x2560_S24x2560x512_S24x2560x8x512_3_1_12_2_0_0 none (truncf .bf16 (mulf E (broadcastInDim S24x2560x8x2560 ![0, 1, 2, 3] bcast_S24x2560x8x1_S24x2560x8x2560_0_1_2_3 (Host.divf (broadcastInDim S24x2560x8x1 ![] bcast_S_S24x2560x8x1 (constant S_ .f32 0x3F800000#32)) L))) bitsLt_bf16_f32) C) bitsLt_bf16_f32) (broadcastInDim S24x2560x8x512 ![] bcast_S_S24x2560x8x512 (constant S_ .bf16 0x0000#16)) : FVec Ideal S24x2560x8x512 .bf16) (ix4 b t h d)
      = Scalar.select (W (ix3 b t 0)) (∑ x : Fin 2560, E (ix4 b t h x) * Ideal.div 1 (L (ix4 b t h 0)) * C (ix3 b x d)) 0 := by
  pointwise

/-- The second result, from the arrays it is computed of. -/
theorem l_at (M L : FVec Ideal S24x2560x8x1 .f32) (W : IVec S24x2560x1 1) (b : Fin 24) (t : Fin 2560) (h : Fin 8) :
    (select (broadcastInDim S24x2560x8 ![0, 1, 2] bcast_S24x2560x1_S24x2560x8_0_1_2 W) (shapeCast S24x2560x8 (addf M (Host.log L)) shapeCasts_S24x2560x8x1_S24x2560x8) (broadcastInDim S24x2560x8 ![] bcast_S_S24x2560x8 (constant S_ .f32 0x00000000#32)) : FVec Ideal S24x2560x8 .f32) (ix3 b t h)
      = Scalar.select (W (ix3 b t 0)) (M (ix4 b t h 0) + Ideal.log (L (ix4 b t h 0))) 0 := by
  pointwise

/-- The weighted sum over the first `n` keys. -/
theorem attn_sum (n : ℕ) (f c : ℕ → EReal) : (∑ k : Fin n, Ideal.exp (f k.val - Cert.Soft.mx f n) * Ideal.div 1 (Cert.Soft.smE f n) * c k.val) = Cert.KernelIdeal.Hand.attnV f c n :=
  (Finset.sum_range fun k => Ideal.exp (f k - Cert.Soft.mx f n) * Ideal.div 1 (Cert.Soft.smE f n) * c k).symm

theorem val_at (A : Cert.Spec.Args) (b : Fin 24) (d : Fin 512) (k : Fin 2560) : Cert.Spec.key A b k d = Cert.Spec.val A b d k.val := by
  rw [Cert.Spec.val, dif_pos k.isLt]

theorem sel_eq {x x' : BitVec 1} {a a' : EReal} (hx : x = x') (ha : a = a') : Scalar.select x a 0 = if x' = 1#1 then a' else 0 := by
  subst hx ha; rfl

/-- The named arrays, at their plain types. -/
def e32 : FVec Ideal S24x2560x8x2560 .f32 := res_main_v32 V
def e34 : FVec Ideal S24x2560x8x1 .f32 := res_main_v34 V
def e29 : FVec Ideal S24x2560x8x1 .f32 := res_main_v29 V
def e12 : FVec Ideal S24x2560x512 .bf16 := res_main_v12 V
def e50 : IVec S24x2560x1 1 := res_main_v50 V

/-- The first result is the specification's. -/
theorem o_eq (b : Fin 24) (t : Fin 2560) (h : Fin 8) (d : Fin 512) :
    Scalar.select (e50 V (ix3 b t 0)) (∑ x : Fin 2560, e32 V (ix4 b t h x) * Ideal.div 1 (e34 V (ix4 b t h 0)) * e12 V (ix3 b x d)) 0
      = Cert.Spec.out (argsV V) b t h d := by
  refine sel_eq (v50_at V b t) (sum_eq (fun x => congrArg₂ (· * ·) (congrArg₂ (· * ·) (v32_at V b t h x) (congrArg (Ideal.div 1) (v34_at V b t h))) ((v12_at V b x d).trans (val_at (argsV V) b d x))) ?_)
  exact attn_sum 2560 _ _

/-- The second result is the specification's. -/
theorem l_eq (b : Fin 24) (t : Fin 2560) (h : Fin 8) :
    Scalar.select (e50 V (ix3 b t 0)) (e29 V (ix4 b t h 0) + Ideal.log (e34 V (ix4 b t h 0))) 0 = Cert.Spec.lse (argsV V) b t h :=
  sel_eq (v50_at V b t) (congrArg₂ (· + ·) (v29_at V b t h) (congrArg Ideal.log (v34_at V b t h)))

end Cert.ReferenceIdeal.Hand

end
-- ==== Proof.RefArr.lean ====
/- The reference's first step over the extended reals: its cast of the codes leaves the codes. -/
module

public import proofs.«01_k».proof.Proof.RefVal
public import Idealize.ShloMosaic.Lib.Pipeline.ValueKit.Geometry

@[expose] public section

set_option maxRecDepth 16384

noncomputable section

namespace Cert.ReferenceIdeal.Hand

open Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

/-- Window 0's one block is its whole array. -/
theorem emb0 (t : Fin cfg0.N) (y : S24x2560x8x512.Idx) : (((cfg0.win 0).rect t).emb y : S24x2560x8x512.Idx) = y := by
  funext a
  exact Fin.ext (Pipeline.Window.rect_emb_val_of_index_zero (cfg0.win 0) t a rfl y)

/-- Window 1's one block is its whole array. -/
theorem emb1 (t : Fin cfg0.N) (y : S24x2560x512.Idx) : (((cfg0.win 1).rect t).emb y : S24x2560x512.Idx) = y := by
  funext a
  exact Fin.ext (Pipeline.Window.rect_emb_val_of_index_zero (cfg0.win 1) t a rfl y)

/-- Window 2's one block is its whole array. -/
theorem emb2 (t : Fin cfg0.N) (y : S24x2560x8x512.Idx) : (((cfg0.win 2).rect t).emb y : S24x2560x8x512.Idx) = y := by
  funext a
  exact Fin.ext (Pipeline.Window.rect_emb_val_of_index_zero (cfg0.win 2) t a rfl y)

/-- Window 3's one block is its whole array. -/
theorem emb3 (t : Fin cfg0.N) (y : S24x2560x512.Idx) : (((cfg0.win 3).rect t).emb y : S24x2560x512.Idx) = y := by
  funext a
  exact Fin.ext (Pipeline.Window.rect_emb_val_of_index_zero (cfg0.win 3) t a rfl y)

/-- What window 0 stages: argument `main_arg0`. -/
theorem iblk0 (t : Fin cfg0.N) (y : S24x2560x8x512.Idx) : iblk m c 0 t y = m ((c.tc : Thread nD τ).loc main_arg0) y :=
  (congrArg (V m c (Pipeline.arrRef spec0 0)) (emb0 t y)).trans (congrFun (V_main_arg0 m c) y)

/-- What window 1 stages: argument `main_arg3`. -/
theorem iblk1 (t : Fin cfg0.N) (y : S24x2560x512.Idx) : iblk m c 1 t y = m ((c.tc : Thread nD τ).loc main_arg3) y :=
  (congrArg (V m c (Pipeline.arrRef spec0 1)) (emb1 t y)).trans (congrFun (V_main_arg3 m c) y)

theorem out2_at (x0 : Vec Ideal S24x2560x8x512 .fp8e4m3) (x1 : Vec Ideal S24x2560x512 .fp8e4m3) (y : S24x2560x8x512.Idx) : out0_2 x0 x1 y = x0 y := by
  have hz : (![0, 0, 0, 0] : Fin S24x2560x8x512.rank → Nat) = fun _ => 0 := by funext a; fin_cases a <;> rfl
  unfold out0_2
  rw [View.canon_unit_zero hz, View.ld_unit_zero hz]
  rfl

/-- What the cast leaves in result 0: argument `main_arg0`'s values. -/
theorem reg2 : (reg_main_v0_0 m c : S24x2560x8x512.Idx → EReal) = m ((c.tc : Thread nD τ).loc main_arg0) := by
  refine (dats m 0 c).arrAt_eq_of_covers 2 (fun y : S24x2560x8x512.Idx => m ((c.tc : Thread nD τ).loc main_arg0) y) (by decide +kernel) (fun t _ y => ?_)
  refine Eq.trans ?_ (congrArg (fun y : S24x2560x8x512.Idx => m ((c.tc : Thread nD τ).loc main_arg0) y) (emb2 t y)).symm
  refine (congrFun (after0_2 m c t) _).trans ?_
  refine (out2_at _ _ _).trans ?_
  exact iblk0 m c t _

theorem out3_at (x0 : Vec Ideal S24x2560x8x512 .fp8e4m3) (x1 : Vec Ideal S24x2560x512 .fp8e4m3) (y : S24x2560x512.Idx) : out0_3 x0 x1 y = x1 y := by
  have hz : (![0, 0, 0] : Fin S24x2560x512.rank → Nat) = fun _ => 0 := by funext a; fin_cases a <;> rfl
  unfold out0_3
  rw [View.canon_unit_zero hz, View.ld_unit_zero hz]
  rfl

/-- What the cast leaves in result 1: argument `main_arg3`'s values. -/
theorem reg3 : (reg_main_v0_1 m c : S24x2560x512.Idx → EReal) = m ((c.tc : Thread nD τ).loc main_arg3) := by
  refine (dats m 0 c).arrAt_eq_of_covers 3 (fun y : S24x2560x512.Idx => m ((c.tc : Thread nD τ).loc main_arg3) y) (by decide +kernel) (fun t _ y => ?_)
  refine Eq.trans ?_ (congrArg (fun y : S24x2560x512.Idx => m ((c.tc : Thread nD τ).loc main_arg3) y) (emb3 t y)).symm
  refine (congrFun (after0_3 m c t) _).trans ?_
  refine (out3_at _ _ _).trans ?_
  exact iblk1 m c t _

/-- The arrays the later operations start from are the arguments. -/
theorem argsV_eq : argsV (exitV m c) = { a0 := m ((c.tc : Thread nD τ).loc main_arg0), a1 := m ((c.tc : Thread nD τ).loc main_arg1), a2 := m ((c.tc : Thread nD τ).loc main_arg2), a3 := m ((c.tc : Thread nD τ).loc main_arg3), a4 := m ((c.tc : Thread nD τ).loc main_arg4), a5 := m ((c.tc : Thread nD τ).loc main_arg5), a6 := m ((c.tc : Thread nD τ).loc main_arg6) } := by
  have h0 : (argsV (exitV m c)).a0 = m ((c.tc : Thread nD τ).loc main_arg0) := (exit_main_v0_0 m c).trans (reg2 m c)
  have h3 : (argsV (exitV m c)).a3 = m ((c.tc : Thread nD τ).loc main_arg3) := (exit_main_v0_1 m c).trans (reg3 m c)
  have h1 : (argsV (exitV m c)).a1 = m ((c.tc : Thread nD τ).loc main_arg1) := exit_main_arg1 m c
  have h2 : (argsV (exitV m c)).a2 = m ((c.tc : Thread nD τ).loc main_arg2) := exit_main_arg2 m c
  have h4 : (argsV (exitV m c)).a4 = m ((c.tc : Thread nD τ).loc main_arg4) := exit_main_arg4 m c
  have h5 : (argsV (exitV m c)).a5 = m ((c.tc : Thread nD τ).loc main_arg5) := exit_main_arg5 m c
  have h6 : (argsV (exitV m c)).a6 = m ((c.tc : Thread nD τ).loc main_arg6) := exit_main_arg6 m c
  generalize argsV (exitV m c) = A at *
  cases A
  simp only at h0 h1 h2 h3 h4 h5 h6
  rw [h0, h1, h2, h3, h4, h5, h6]

end Cert.ReferenceIdeal.Hand

end
-- ==== Proof.Equal.lean ====
/- The kernel and the reference leave equal results over the extended reals, where the lengths fit. -/
module

public import proofs.«01_k».proof.Defs
public import proofs.«01_k».proof.Proof.Gen.Pre_lengths_fit
public import proofs.«01_k».proof.Proof.KIOut
public import proofs.«01_k».proof.Proof.RefArr

@[expose] public section

set_option maxRecDepth 16384

noncomputable section

namespace Cert.Hand

open Idealize.ShloMosaic Idealize.ShloMosaic.TcCoe Idealize.SL.Sem
open Cert.ReferenceIdeal.Hand

/-- The precondition, word by word. -/
theorem fits (m : (ℓ : Loc Cert.KernelIdeal.nD Cert.KernelIdeal.τ Cert.KernelIdeal.sig) → Buf (Elt Ideal) ℓ) (h : Pre_KernelIdeal_lengths_fit m)
    (c : Dev Cert.KernelIdeal.nD) : Cert.KernelIdeal.Hand.Fits m c := by
  intro b
  have e : IntOp.cmpi CmpIPredicate.sle ((Cert.KernelIdeal.Hand.argsOf m c).a6 (ix1 b)) 2147483520#32 = 1#1 := congrFun (h c) (ix1 b)
  have h1 : ∀ b : Bool, BitVec.ofBool b = 1#1 ↔ b = true := by decide
  rw [WordCmp.cmpi_sle_eq, h1, decide_eq_true_iff] at e
  exact e

section Reference

open Cert.ReferenceIdeal Cert.ReferenceIdeal.Gen Cert.ReferenceIdeal.Value

variable (V : Valuation τ sig (Elt Ideal))

/-- The reference's first result, whole. -/
theorem ref_o : (select (broadcastInDim S24x2560x8x512 ![0, 1, 2, 3] bcast_S24x2560x1x1_S24x2560x8x512_0_1_2_3 (broadcastInDim S24x2560x1x1 ![0, 1, 2] bcast_S24x2560x1_S24x2560x1x1_0_1_2 (e50 V))) (truncf .bf16 (Host.dotGeneral dot_S24x2560x8x2560_S24x2560x512_S24x2560x8x512_3_1_12_2_0_0 none (truncf .bf16 (mulf (e32 V) (broadcastInDim S24x2560x8x2560 ![0, 1, 2, 3] bcast_S24x2560x8x1_S24x2560x8x2560_0_1_2_3 (Host.divf (broadcastInDim S24x2560x8x1 ![] bcast_S_S24x2560x8x1 (constant S_ .f32 0x3F800000#32)) (e34 V)))) bitsLt_bf16_f32) (e12 V)) bitsLt_bf16_f32) (broadcastInDim S24x2560x8x512 ![] bcast_S_S24x2560x8x512 (constant S_ .bf16 0x0000#16)) : FVec Ideal S24x2560x8x512 .bf16)
    = fun y => Cert.Spec.out (argsV V) (y 0) (y 1) (y 2) (y 3) := by
  funext y
  obtain ⟨b, t, h, d, rfl⟩ : ∃ (b : Fin 24) (t : Fin 2560) (h : Fin 8) (d : Fin 512), y = (ix4 b t h d : S24x2560x8x512.Idx) := ⟨y 0, y 1, y 2, y 3, eq_ix4 y⟩
  exact (o_at _ _ _ _ b t h d).trans (o_eq V b t h d)

/-- The reference's second result, whole. -/
theorem ref_l : (select (broadcastInDim S24x2560x8 ![0, 1, 2] bcast_S24x2560x1_S24x2560x8_0_1_2 (e50 V)) (shapeCast S24x2560x8 (addf (e29 V) (Host.log (e34 V))) shapeCasts_S24x2560x8x1_S24x2560x8) (broadcastInDim S24x2560x8 ![] bcast_S_S24x2560x8 (constant S_ .f32 0x00000000#32)) : FVec Ideal S24x2560x8 .f32)
    = fun y => Cert.Spec.lse (argsV V) (y 0) (y 1) (y 2) := by
  funext y
  obtain ⟨b, t, h, rfl⟩ : ∃ (b : Fin 24) (t : Fin 2560) (h : Fin 8), y = (ix3 b t h : S24x2560x8.Idx) := ⟨y 0, y 1, y 2, eq_ix3 y⟩
  exact (l_at _ _ _ b t h).trans (l_eq V b t h)

end Reference

/-- Kernel and reference, from memories that agree at the arguments and whose lengths fit, end with equal results. -/
theorem algebraic : algebraic_KernelIdeal_ReferenceIdeal_pre_lengths_fit := by
  intro m g m' g' hp hagree
  refine ⟨fun c => Cert.KernelIdeal.Hand.resO m c, fun c => Cert.KernelIdeal.Hand.resL m c,
    (θ_run _ _ _).mono (fun _ h => h.1) (Cert.KernelIdeal.Hand.run_value m g (fits m hp)), ?_⟩
  refine (θ_run _ _ _).mono (fun _ h c => ?_) (Cert.ReferenceIdeal.Value.run (F := Ideal) m' g')
  have hA : argsV (Cert.ReferenceIdeal.Value.exitV m' c) = Cert.KernelIdeal.Hand.argsOf m c := by
    obtain ⟨h0, h1, h2, h3, h4, h5, h6⟩ := hagree c
    refine (argsV_eq m' c).trans ?_
    rw [h0, h1, h2, h3, h4, h5, h6]; rfl
  refine ⟨(h c).1.trans ((ref_o _).trans ?_), (h c).2.1.trans ((ref_l _).trans ?_), (h c).2.2⟩
  · rw [hA]; rfl
  · rw [hA]; rfl

end Cert.Hand

end
-- ==== Proof.lean ====
/- The proof of the certificate's claim: the witnesses of the programs' stated facts, then the claims one by one. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.Pre_lengths_fit
public import proofs.«01_k».proof.Proof.Claims
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Pre_lengths_fit.Gen.facts, frame_p, frame_pi, frame_pi', frame_ri, frame_ri', preserves, Cert.Hand.algebraic⟩

end Cert.Proof

end
